-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ScCall [hPre_names_a_bit : Cert.Pre_names_a_bit.Facts] (m : (ℓ : Loc Cert.ScCall.nD Cert.ScCall.τ Cert.ScCall.sig) → Buf (Elt Bits) ℓ) : Prop :=
  ∀ c : Dev Cert.ScCall.nD,
    (Cert.Pre_names_a_bit.fn (F := Bits) (m ((c.tc : Thread Cert.ScCall.nD Cert.ScCall.τ).loc Cert.ScCall.main_arg0)) (m ((c.tc : Thread Cert.ScCall.nD Cert.ScCall.τ).loc Cert.ScCall.main_arg1))) = (fun _ => 1#1)

def Pre_ScReference [hPre_names_a_bit : Cert.Pre_names_a_bit.Facts] (m : (ℓ : Loc Cert.ScReference.nD Cert.ScReference.τ Cert.ScReference.sig) → Buf (Elt Bits) ℓ) : Prop :=
  ∀ c : Dev Cert.ScReference.nD,
    (Cert.Pre_names_a_bit.fn (F := Bits) (m ((c.tc : Thread Cert.ScReference.nD Cert.ScReference.τ).loc Cert.ScReference.main_arg0)) (m ((c.tc : Thread Cert.ScReference.nD Cert.ScReference.τ).loc Cert.ScReference.main_arg1))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ScCall [hScCall : Cert.ScCall.Facts] [hPre_names_a_bit : Cert.Pre_names_a_bit.Facts] : Prop :=
  ∀ (m : (ℓ : Loc Cert.ScCall.nD Cert.ScCall.τ Cert.ScCall.sig) → Buf (Elt Bits) ℓ) (g : Dev Cert.ScCall.nD → PrngReg), Pre_ScCall m →
    θ_run (Cert.ScCall.defs (F := Bits)) (Cert.ScCall.threads (F := Bits)) ⟨m, fun _ => 0, g⟩ (fun r => (∀ c : Dev Cert.ScCall.nD,
      r.2.mem ((c.tc : Thread Cert.ScCall.nD Cert.ScCall.τ).loc Cert.ScCall.main_arg0) = m ((c.tc : Thread Cert.ScCall.nD Cert.ScCall.τ).loc Cert.ScCall.main_arg0)
      ∧ r.2.mem ((c.tc : Thread Cert.ScCall.nD Cert.ScCall.τ).loc Cert.ScCall.main_arg1) = m ((c.tc : Thread Cert.ScCall.nD Cert.ScCall.τ).loc Cert.ScCall.main_arg1))
      ∧ r.2.sem = fun _ => 0)

def quiescent_ScReference [hScReference : Cert.ScReference.Facts] [hPre_names_a_bit : Cert.Pre_names_a_bit.Facts] : Prop :=
  ∀ (m : (ℓ : Loc Cert.ScReference.nD Cert.ScReference.τ Cert.ScReference.sig) → Buf (Elt Bits) ℓ) (g : Dev Cert.ScReference.nD → PrngReg), Pre_ScReference m →
    θ_run (Cert.ScReference.defs (F := Bits)) (onTc (τ := Cert.ScReference.τ) (Cert.ScReference.main (F := Bits))) ⟨m, fun _ => 0, g⟩ (fun r => (∀ c : Dev Cert.ScReference.nD,
      r.2.mem ((c.tc : Thread Cert.ScReference.nD Cert.ScReference.τ).loc Cert.ScReference.main_arg0) = m ((c.tc : Thread Cert.ScReference.nD Cert.ScReference.τ).loc Cert.ScReference.main_arg0)
      ∧ r.2.mem ((c.tc : Thread Cert.ScReference.nD Cert.ScReference.τ).loc Cert.ScReference.main_arg1) = m ((c.tc : Thread Cert.ScReference.nD Cert.ScReference.τ).loc Cert.ScReference.main_arg1))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_ScCall_ScReference [hScCall : Cert.ScCall.Facts] [hScReference : Cert.ScReference.Facts] [hPre_names_a_bit : Cert.Pre_names_a_bit.Facts] : Prop :=
  ∀ (m : (ℓ : Loc Cert.ScCall.nD Cert.ScCall.τ Cert.ScCall.sig) → Buf (Elt Bits) ℓ) (g : Dev Cert.ScCall.nD → PrngReg)
    (m' : (ℓ : Loc Cert.ScReference.nD Cert.ScReference.τ Cert.ScReference.sig) → Buf (Elt Bits) ℓ) (g' : Dev Cert.ScReference.nD → PrngReg), Pre_ScCall m →
    (∀ c : Dev Cert.ScCall.nD,
      m' ((c.tc : Thread Cert.ScReference.nD Cert.ScReference.τ).loc Cert.ScReference.main_arg0) = m ((c.tc : Thread Cert.ScCall.nD Cert.ScCall.τ).loc Cert.ScCall.main_arg0)
      ∧ m' ((c.tc : Thread Cert.ScReference.nD Cert.ScReference.τ).loc Cert.ScReference.main_arg1) = m ((c.tc : Thread Cert.ScCall.nD Cert.ScCall.τ).loc Cert.ScCall.main_arg1)) →
    ∃ (v0 : (c : Dev Cert.ScCall.nD) → Buf (Elt Bits) ((c.tc : Thread Cert.ScCall.nD Cert.ScCall.τ).loc Cert.ScCall.main_v0)),
      θ_run (Cert.ScCall.defs (F := Bits)) (Cert.ScCall.threads (F := Bits)) ⟨m, fun _ => 0, g⟩ (fun r => ∀ c : Dev Cert.ScCall.nD,
          r.2.mem ((c.tc : Thread Cert.ScCall.nD Cert.ScCall.τ).loc Cert.ScCall.main_v0) = v0 c
          ∧ r.2.mem ((c.tc : Thread Cert.ScCall.nD Cert.ScCall.τ).loc Cert.ScCall.main_arg0) = m ((c.tc : Thread Cert.ScCall.nD Cert.ScCall.τ).loc Cert.ScCall.main_arg0)
          ∧ r.2.mem ((c.tc : Thread Cert.ScCall.nD Cert.ScCall.τ).loc Cert.ScCall.main_arg1) = m ((c.tc : Thread Cert.ScCall.nD Cert.ScCall.τ).loc Cert.ScCall.main_arg1))
      ∧ θ_run (Cert.ScReference.defs (F := Bits)) (onTc (τ := Cert.ScReference.τ) (Cert.ScReference.main (F := Bits))) ⟨m', fun _ => 0, g'⟩ (fun r => ∀ c : Dev Cert.ScReference.nD,
          r.2.mem ((c.tc : Thread Cert.ScReference.nD Cert.ScReference.τ).loc Cert.ScReference.main_v23) = v0 c
          ∧ r.2.mem ((c.tc : Thread Cert.ScReference.nD Cert.ScReference.τ).loc Cert.ScReference.main_arg0) = m' ((c.tc : Thread Cert.ScReference.nD Cert.ScReference.τ).loc Cert.ScReference.main_arg0)
          ∧ r.2.mem ((c.tc : Thread Cert.ScReference.nD Cert.ScReference.τ).loc Cert.ScReference.main_arg1) = m' ((c.tc : Thread Cert.ScReference.nD Cert.ScReference.τ).loc Cert.ScReference.main_arg1))

def Claim : Prop :=
  ∃ (hKernelIdeal : Cert.KernelIdeal.Facts) (hReferenceIdeal : Cert.ReferenceIdeal.Facts) (hScCall : Cert.ScCall.Facts) (hScReference : Cert.ScReference.Facts) (hPre_names_a_bit : Cert.Pre_names_a_bit.Facts),
    quiescent_KernelIdeal (hKernelIdeal := hKernelIdeal)
    ∧ quiescent_ReferenceIdeal (hReferenceIdeal := hReferenceIdeal)
    ∧ quiescent_ScCall (hScCall := hScCall) (hPre_names_a_bit := hPre_names_a_bit)
    ∧ quiescent_ScReference (hScReference := hScReference) (hPre_names_a_bit := hPre_names_a_bit)
    ∧ algebraic_KernelIdeal_ReferenceIdeal (hKernelIdeal := hKernelIdeal) (hReferenceIdeal := hReferenceIdeal)
    ∧ bitexact_ScCall_ScReference (hScCall := hScCall) (hScReference := hScReference) (hPre_names_a_bit := hPre_names_a_bit)
-- ==== Pre_names_a_bit.lean ====
abbrev S16x16640 : Shape := ⟨2, ![16, 16640]⟩
abbrev S1600000 : Shape := ⟨1, ![1600000]⟩
abbrev S_ : Shape := ⟨0, ![]⟩

class Facts : Prop where
  bcast_S_S1600000 : S_.BroadcastsInDim S1600000 (![] : Fin 0 → Fin S1600000.rank)

variable [Facts]

def fn {F : FTy → Type} [FloatOps F] (main_arg0 : IVec S16x16640 32) (main_arg1 : IVec S1600000 32) : IVec S1600000 1 :=
  let main_c : IVec S_ 32 := constantI S_ 32 0#32
  let main_v0 : IVec S1600000 32 := broadcastInDim S1600000 ![] bcast_S_S1600000 main_c
  let main_v1 : IVec S1600000 1 := cmpi .sge main_arg1 main_v0
  let main_c_0 : IVec S_ 32 := constantI S_ 32 266240#32
  let main_v2 : IVec S1600000 32 := broadcastInDim S1600000 ![] bcast_S_S1600000 main_c_0
  let main_v3 : IVec S1600000 1 := cmpi .slt main_arg1 main_v2
  let main_v4 : IVec S1600000 1 := andi main_v1 main_v3
  main_v4
-- ==== KernelIdeal.lean ====
abbrev S16x100000x2 : Shape := ⟨3, ![16, 100000, 2]⟩
abbrev S16x1x512x512 : Shape := ⟨4, ![16, 1, 512, 512]⟩
abbrev S800x200 : Shape := ⟨2, ![800, 200]⟩
abbrev S512x32 : Shape := ⟨2, ![512, 32]⟩
abbrev S16x512x512 : Shape := ⟨3, ![16, 512, 512]⟩
abbrev S8000x400 : Shape := ⟨2, ![8000, 400]⟩
abbrev S8000x200 : Shape := ⟨2, ![8000, 200]⟩
abbrev S800x400 : Shape := ⟨2, ![800, 400]⟩
abbrev S800x800 : Shape := ⟨2, ![800, 800]⟩
abbrev S16x520x32 : Shape := ⟨3, ![16, 520, 32]⟩
abbrev S1x512x512 : Shape := ⟨3, ![1, 512, 512]⟩
abbrev S1x520x32 : Shape := ⟨3, ![1, 520, 32]⟩
abbrev S512x512 : Shape := ⟨2, ![512, 512]⟩
abbrev S8x32 : Shape := ⟨2, ![8, 32]⟩
abbrev S520x32 : Shape := ⟨2, ![520, 32]⟩
abbrev S16x16640 : Shape := ⟨2, ![16, 16640]⟩
abbrev S1600000 : Shape := ⟨1, ![1600000]⟩
abbrev S16640 : Shape := ⟨1, ![16640]⟩
abbrev S50000 : Shape := ⟨1, ![50000]⟩
abbrev S_ : Shape := ⟨0, ![]⟩
abbrev S1x16640 : Shape := ⟨2, ![1, 16640]⟩
abbrev S16 : Shape := ⟨1, ![16]⟩
abbrev S16x100000 : Shape := ⟨2, ![16, 100000]⟩

abbrev nBuf : Table → Nat
  | .hbm => 16
  | .local .tc .vmem => 10
  | .local .scVector .vmem => 3
  | _ => 0

abbrev bufTy : (tb : Table) → Fin (nBuf tb) → BufTy
  | .hbm, ⟨0, _⟩ => ⟨S16x100000x2, .f32⟩
  | .hbm, ⟨1, _⟩ => ⟨S16x1x512x512, .f32⟩
  | .hbm, ⟨2, _⟩ => ⟨S800x200, .f32⟩
  | .hbm, ⟨3, _⟩ => ⟨S512x32, .f32⟩
  | .hbm, ⟨4, _⟩ => ⟨S16x512x512, .f32⟩
  | .hbm, ⟨5, _⟩ => ⟨S8000x400, .f32⟩
  | .hbm, ⟨6, _⟩ => ⟨S8000x200, .i32⟩
  | .hbm, ⟨7, _⟩ => ⟨S16x520x32, .i32⟩
  | .hbm, ⟨8, _⟩ => ⟨S16x16640, .i32⟩
  | .hbm, ⟨9, _⟩ => ⟨S1600000, .i32⟩
  | .hbm, ⟨10, _⟩ => ⟨S1600000, .i32⟩
  | .hbm, ⟨11, _⟩ => ⟨S16x100000, .i32⟩
  | .hbm, ⟨12, _⟩ => ⟨S_, .i32⟩
  | .hbm, ⟨13, _⟩ => ⟨S16x100000, .i32⟩
  | .hbm, ⟨14, _⟩ => ⟨S16x100000, .i1⟩
  | .hbm, ⟨15, _⟩ => ⟨S16x100000, .i1⟩
  | .local .tc .vmem, ⟨0, _⟩ => ⟨S800x400, .f32⟩
  | .local .tc .vmem, ⟨1, _⟩ => ⟨S800x400, .f32⟩
  | .local .tc .vmem, ⟨2, _⟩ => ⟨S800x200, .f32⟩
  | .local .tc .vmem, ⟨3, _⟩ => ⟨S800x200, .i32⟩
  | .local .tc .vmem, ⟨4, _⟩ => ⟨S800x200, .i32⟩
  | .local .tc .vmem, ⟨5, _⟩ => ⟨S1x512x512, .f32⟩
  | .local .tc .vmem, ⟨6, _⟩ => ⟨S1x512x512, .f32⟩
  | .local .tc .vmem, ⟨7, _⟩ => ⟨S512x32, .f32⟩
  | .local .tc .vmem, ⟨8, _⟩ => ⟨S1x520x32, .i32⟩
  | .local .tc .vmem, ⟨9, _⟩ => ⟨S1x520x32, .i32⟩
  | .local .scVector .vmem, ⟨0, _⟩ => ⟨S16640, .i32⟩
  | .local .scVector .vmem, ⟨1, _⟩ => ⟨S50000, .i32⟩
  | .local .scVector .vmem, ⟨2, _⟩ => ⟨S50000, .i32⟩
  | _, _ => ⟨S16x100000x2, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v4_scv : Ref sig .scVector := ⟨.hbm, 8, rfl⟩
abbrev main_v5_scv : Ref sig .scVector := ⟨.hbm, 9, rfl⟩
abbrev main_v6_scv : Ref sig .scVector := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S800x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S800x200 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x520x32 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![2, 16], ![false, false]⟩

def k2_off1 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_9_r0 : BitVec 32 := 0#32
  ![v18.toNat, 0]
def k2_off2 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v19 : BitVec 32 := Scalar.muli v1 c50000_i32
  ![v19.toNat]
@[reducible] def k2_t1_loop : Scf.Loop 32 :=
  let c0_i32_6 : BitVec 32 := 0#32
  let c625_i32 : BitVec 32 := 625#32
  let v20 : BitVec 32 := Scalar.addi c0_i32_6 c625_i32
  let c1_i32_7 : BitVec 32 := 1#32
  ⟨c0_i32_6, v20, c1_i32_7⟩
def k2_off3 (k2_t1 : Fin k2_t1_loop.trips) : Fin 1 → Nat :=
  let c0_i32_6 : BitVec 32 := 0#32
  let c1_i32_7 : BitVec 32 := 1#32
  let arg8 : BitVec 32 := Scf.iv c0_i32_6 c1_i32_7 k2_t1
  let c5_i32 : BitVec 32 := 5#32
  let v21 : BitVec 32 := Scalar.muli arg8 c5_i32
  let c0_i32_9 : BitVec 32 := 0#32
  let v22 : BitVec 32 := Scalar.addi v21 c0_i32_9
  let c16_i32 : BitVec 32 := 16#32
  let v23 : BitVec 32 := Scalar.muli v22 c16_i32
  let v24 : Index := Scalar.indexCast v23
  ![v24.toNat]

def k2_chk1 (v27 : IVec S16 32) : Prop :=
  (∀ a x, ((![v27] : Fin 1 → IVec S16 32) a x).toNat < S16640.size a)
theorem k2_idx1_inb : ∀ (v27 : IVec S16 32) (k2_hw1 : k2_chk1 v27), ∀ a x, ((![v27] : Fin 1 → IVec S16 32) a x).toNat < S16640.size a := fun v27 k2_hw1 => k2_hw1
def k2_off4 (k2_t1 : Fin k2_t1_loop.trips) (c0_i32_9 : BitVec 32) : Fin 1 → Nat :=
  let c0_i32_6 : BitVec 32 := 0#32
  let c1_i32_7 : BitVec 32 := 1#32
  let arg8 : BitVec 32 := Scf.iv c0_i32_6 c1_i32_7 k2_t1
  let c5_i32 : BitVec 32 := 5#32
  let v21 : BitVec 32 := Scalar.muli arg8 c5_i32
  let v22 : BitVec 32 := Scalar.addi v21 c0_i32_9
  let c16_i32 : BitVec 32 := 16#32
  let v23 : BitVec 32 := Scalar.muli v22 c16_i32
  let v34 : Index := Scalar.indexCast v23
  ![v34.toNat]

def k2_chk2 (v42 : IVec S16 32) : Prop :=
  (∀ a x, ((![v42] : Fin 1 → IVec S16 32) a x).toNat < S16640.size a)
theorem k2_idx2_inb : ∀ (v42 : IVec S16 32) (k2_hw2 : k2_chk2 v42), ∀ a x, ((![v42] : Fin 1 → IVec S16 32) a x).toNat < S16640.size a := fun v42 k2_hw2 => k2_hw2
def k2_off5 (k2_t1 : Fin k2_t1_loop.trips) (c1_i32_12 : BitVec 32) : Fin 1 → Nat :=
  let c0_i32_6 : BitVec 32 := 0#32
  let c1_i32_7 : BitVec 32 := 1#32
  let arg8 : BitVec 32 := Scf.iv c0_i32_6 c1_i32_7 k2_t1
  let c5_i32_11 : BitVec 32 := 5#32
  let v36 : BitVec 32 := Scalar.muli arg8 c5_i32_11
  let v37 : BitVec 32 := Scalar.addi v36 c1_i32_12
  let c16_i32_13 : BitVec 32 := 16#32
  let v38 : BitVec 32 := Scalar.muli v37 c16_i32_13
  let v49 : Index := Scalar.indexCast v38
  ![v49.toNat]

def k2_chk3 (v57 : IVec S16 32) : Prop :=
  (∀ a x, ((![v57] : Fin 1 → IVec S16 32) a x).toNat < S16640.size a)
theorem k2_idx3_inb : ∀ (v57 : IVec S16 32) (k2_hw3 : k2_chk3 v57), ∀ a x, ((![v57] : Fin 1 → IVec S16 32) a x).toNat < S16640.size a := fun v57 k2_hw3 => k2_hw3
def k2_off6 (k2_t1 : Fin k2_t1_loop.trips) (c2_i32_18 : BitVec 32) : Fin 1 → Nat :=
  let c0_i32_6 : BitVec 32 := 0#32
  let c1_i32_7 : BitVec 32 := 1#32
  let arg8 : BitVec 32 := Scf.iv c0_i32_6 c1_i32_7 k2_t1
  let c5_i32_17 : BitVec 32 := 5#32
  let v51 : BitVec 32 := Scalar.muli arg8 c5_i32_17
  let v52 : BitVec 32 := Scalar.addi v51 c2_i32_18
  let c16_i32_19 : BitVec 32 := 16#32
  let v53 : BitVec 32 := Scalar.muli v52 c16_i32_19
  let v64 : Index := Scalar.indexCast v53
  ![v64.toNat]

def k2_chk4 (v72 : IVec S16 32) : Prop :=
  (∀ a x, ((![v72] : Fin 1 → IVec S16 32) a x).toNat < S16640.size a)
theorem k2_idx4_inb : ∀ (v72 : IVec S16 32) (k2_hw4 : k2_chk4 v72), ∀ a x, ((![v72] : Fin 1 → IVec S16 32) a x).toNat < S16640.size a := fun v72 k2_hw4 => k2_hw4
def k2_off7 (k2_t1 : Fin k2_t1_loop.trips) (c3_i32 : BitVec 32) : Fin 1 → Nat :=
  let c0_i32_6 : BitVec 32 := 0#32
  let c1_i32_7 : BitVec 32 := 1#32
  let arg8 : BitVec 32 := Scf.iv c0_i32_6 c1_i32_7 k2_t1
  let c5_i32_23 : BitVec 32 := 5#32
  let v66 : BitVec 32 := Scalar.muli arg8 c5_i32_23
  let v67 : BitVec 32 := Scalar.addi v66 c3_i32
  let c16_i32_24 : BitVec 32 := 16#32
  let v68 : BitVec 32 := Scalar.muli v67 c16_i32_24
  let v79 : Index := Scalar.indexCast v68
  ![v79.toNat]

def k2_chk5 (v87 : IVec S16 32) : Prop :=
  (∀ a x, ((![v87] : Fin 1 → IVec S16 32) a x).toNat < S16640.size a)
theorem k2_idx5_inb : ∀ (v87 : IVec S16 32) (k2_hw5 : k2_chk5 v87), ∀ a x, ((![v87] : Fin 1 → IVec S16 32) a x).toNat < S16640.size a := fun v87 k2_hw5 => k2_hw5
def k2_off8 (k2_t1 : Fin k2_t1_loop.trips) : Fin 1 → Nat :=
  let c0_i32_6 : BitVec 32 := 0#32
  let c1_i32_7 : BitVec 32 := 1#32
  let arg8 : BitVec 32 := Scf.iv c0_i32_6 c1_i32_7 k2_t1
  let c5_i32_28 : BitVec 32 := 5#32
  let v81 : BitVec 32 := Scalar.muli arg8 c5_i32_28
  let c4_i32_29 : BitVec 32 := 4#32
  let v82 : BitVec 32 := Scalar.addi v81 c4_i32_29
  let c16_i32_30 : BitVec 32 := 16#32
  let v83 : BitVec 32 := Scalar.muli v82 c16_i32_30
  let v94 : Index := Scalar.indexCast v83
  ![v94.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x100000x2 : Shape := ⟨3, ![16, 100000, 2]⟩
abbrev S16x1x512x512 : Shape := ⟨4, ![16, 1, 512, 512]⟩
abbrev S16x100000x1 : Shape := ⟨3, ![16, 100000, 1]⟩
abbrev S16x100000 : Shape := ⟨2, ![16, 100000]⟩
abbrev S_ : Shape := ⟨0, ![]⟩
abbrev S16 : Shape := ⟨1, ![16]⟩
abbrev S16x1 : Shape := ⟨2, ![16, 1]⟩
abbrev S16x100000x4 : Shape := ⟨3, ![16, 100000, 4]⟩

abbrev nBuf : Space → Nat
  | .hbm => 105
  | .vmem => 0
  | .smem => 0
  | _ => 0

abbrev bufTy : (tb : Table) → Fin (tcTables nBuf tb) → BufTy
  | .hbm, ⟨0, _⟩ => ⟨S16x100000x2, .f32⟩
  | .hbm, ⟨1, _⟩ => ⟨S16x1x512x512, .f32⟩
  | .hbm, ⟨2, _⟩ => ⟨S16x100000x1, .f32⟩
  | .hbm, ⟨3, _⟩ => ⟨S16x100000, .f32⟩
  | .hbm, ⟨4, _⟩ => ⟨S_, .f32⟩
  | .hbm, ⟨5, _⟩ => ⟨S16x100000, .f32⟩
  | .hbm, ⟨6, _⟩ => ⟨S16x100000, .f32⟩
  | .hbm, ⟨7, _⟩ => ⟨S_, .f32⟩
  | .hbm, ⟨8, _⟩ => ⟨S16x100000, .f32⟩
  | .hbm, ⟨9, _⟩ => ⟨S16x100000, .f32⟩
  | .hbm, ⟨10, _⟩ => ⟨S_, .f32⟩
  | .hbm, ⟨11, _⟩ => ⟨S16x100000, .f32⟩
  | .hbm, ⟨12, _⟩ => ⟨S16x100000, .f32⟩
  | .hbm, ⟨13, _⟩ => ⟨S_, .f32⟩
  | .hbm, ⟨14, _⟩ => ⟨S16x100000, .f32⟩
  | .hbm, ⟨15, _⟩ => ⟨S16x100000, .f32⟩
  | .hbm, ⟨16, _⟩ => ⟨S16x100000, .f32⟩
  | .hbm, ⟨17, _⟩ => ⟨S16x100000x1, .f32⟩
  | .hbm, ⟨18, _⟩ => ⟨S16x100000, .f32⟩
  | .hbm, ⟨19, _⟩ => ⟨S_, .f32⟩
  | .hbm, ⟨20, _⟩ => ⟨S16x100000, .f32⟩
  | .hbm, ⟨21, _⟩ => ⟨S16x100000, .f32⟩
  | .hbm, ⟨22, _⟩ => ⟨S_, .f32⟩
  | .hbm, ⟨23, _⟩ => ⟨S16x100000, .f32⟩
  | .hbm, ⟨24, _⟩ => ⟨S16x100000, .f32⟩
  | .hbm, ⟨25, _⟩ => ⟨S_, .f32⟩
  | .hbm, ⟨26, _⟩ => ⟨S16x100000, .f32⟩
  | .hbm, ⟨27, _⟩ => ⟨S16x100000, .f32⟩
  | .hbm, ⟨28, _⟩ => ⟨S_, .f32⟩
  | .hbm, ⟨29, _⟩ => ⟨S16x100000, .f32⟩
  | .hbm, ⟨30, _⟩ => ⟨S16x100000, .f32⟩
  | .hbm, ⟨31, _⟩ => ⟨S16x100000, .f32⟩
  | .hbm, ⟨32, _⟩ => ⟨S_, .f32⟩
  | .hbm, ⟨33, _⟩ => ⟨S16x100000, .f32⟩
  | .hbm, ⟨34, _⟩ => ⟨S16x100000, .i1⟩
  | .hbm, ⟨35, _⟩ => ⟨S_, .f32⟩
  | .hbm, ⟨36, _⟩ => ⟨S16x100000, .f32⟩
  | .hbm, ⟨37, _⟩ => ⟨S16x100000, .i1⟩
  | .hbm, ⟨38, _⟩ => ⟨S16x100000, .i1⟩
  | .hbm, ⟨39, _⟩ => ⟨S_, .f32⟩
  | .hbm, ⟨40, _⟩ => ⟨S16x100000, .f32⟩
  | .hbm, ⟨41, _⟩ => ⟨S16x100000, .i1⟩
  | .hbm, ⟨42, _⟩ => ⟨S16x100000, .i1⟩
  | .hbm, ⟨43, _⟩ => ⟨S_, .f32⟩
  | .hbm, ⟨44, _⟩ => ⟨S16x100000, .f32⟩
  | .hbm, ⟨45, _⟩ => ⟨S16x100000, .i1⟩
  | .hbm, ⟨46, _⟩ => ⟨S16x100000, .i1⟩
  | .hbm, ⟨47, _⟩ => ⟨S_, .i32⟩
  | .hbm, ⟨48, _⟩ => ⟨S_, .i32⟩
  | .hbm, ⟨49, _⟩ => ⟨S_, .f32⟩
  | .hbm, ⟨50, _⟩ => ⟨S16x100000, .f32⟩
  | .hbm, ⟨51, _⟩ => ⟨S16x100000, .f32⟩
  | .hbm, ⟨52, _⟩ => ⟨S_, .f32⟩
  | .hbm, ⟨53, _⟩ => ⟨S16x100000, .f32⟩
  | .hbm, ⟨54, _⟩ => ⟨S16x100000, .f32⟩
  | .hbm, ⟨55, _⟩ => ⟨S16x100000, .i32⟩
  | .hbm, ⟨56, _⟩ => ⟨S_, .i32⟩
  | .hbm, ⟨57, _⟩ => ⟨S_, .i32⟩
  | .hbm, ⟨58, _⟩ => ⟨S_, .f32⟩
  | .hbm, ⟨59, _⟩ => ⟨S16x100000, .f32⟩
  | .hbm, ⟨60, _⟩ => ⟨S16x100000, .f32⟩
  | .hbm, ⟨61, _⟩ => ⟨S_, .f32⟩
  | .hbm, ⟨62, _⟩ => ⟨S16x100000, .f32⟩
  | .hbm, ⟨63, _⟩ => ⟨S16x100000, .f32⟩
  | .hbm, ⟨64, _⟩ => ⟨S16x100000, .i32⟩
  | .hbm, ⟨65, _⟩ => ⟨S16, .i32⟩
  | .hbm, ⟨66, _⟩ => ⟨S16x1, .i32⟩
  | .hbm, ⟨67, _⟩ => ⟨S_, .i32⟩
  | .hbm, ⟨68, _⟩ => ⟨S16x1, .i32⟩
  | .hbm, ⟨69, _⟩ => ⟨S16x1, .i1⟩
  | .hbm, ⟨70, _⟩ => ⟨S_, .i32⟩
  | .hbm, ⟨71, _⟩ => ⟨S16x1, .i32⟩
  | .hbm, ⟨72, _⟩ => ⟨S16x1, .i32⟩
  | .hbm, ⟨73, _⟩ => ⟨S16x1, .i32⟩
  | .hbm, ⟨74, _⟩ => ⟨S_, .i32⟩
  | .hbm, ⟨75, _⟩ => ⟨S16x100000, .i32⟩
  | .hbm, ⟨76, _⟩ => ⟨S16x100000, .i1⟩
  | .hbm, ⟨77, _⟩ => ⟨S_, .i32⟩
  | .hbm, ⟨78, _⟩ => ⟨S16x100000, .i32⟩
  | .hbm, ⟨79, _⟩ => ⟨S16x100000, .i32⟩
  | .hbm, ⟨80, _⟩ => ⟨S16x100000, .i32⟩
  | .hbm, ⟨81, _⟩ => ⟨S_, .i32⟩
  | .hbm, ⟨82, _⟩ => ⟨S16x100000, .i32⟩
  | .hbm, ⟨83, _⟩ => ⟨S16x100000, .i1⟩
  | .hbm, ⟨84, _⟩ => ⟨S_, .i32⟩
  | .hbm, ⟨85, _⟩ => ⟨S16x100000, .i32⟩
  | .hbm, ⟨86, _⟩ => ⟨S16x100000, .i32⟩
  | .hbm, ⟨87, _⟩ => ⟨S16x100000, .i32⟩
  | .hbm, ⟨88, _⟩ => ⟨S16x100000, .i32⟩
  | .hbm, ⟨89, _⟩ => ⟨S_, .i32⟩
  | .hbm, ⟨90, _⟩ => ⟨S16x100000, .i32⟩
  | .hbm, ⟨91, _⟩ => ⟨S16x100000, .i32⟩
  | .hbm, ⟨92, _⟩ => ⟨S16x100000x1, .i32⟩
  | .hbm, ⟨93, _⟩ => ⟨S16x100000x1, .i32⟩
  | .hbm, ⟨94, _⟩ => ⟨S16x100000x1, .i32⟩
  | .hbm, ⟨95, _⟩ => ⟨S16x100000x1, .i32⟩
  | .hbm, ⟨96, _⟩ => ⟨S16x100000x4, .i32⟩
  | .hbm, ⟨97, _⟩ => ⟨S16x100000, .f32⟩
  | .hbm, ⟨98, _⟩ => ⟨S_, .f32⟩
  | .hbm, ⟨99, _⟩ => ⟨S_, .f32⟩
  | .hbm, ⟨100, _⟩ => ⟨S16x100000, .f32⟩
  | .hbm, ⟨101, _⟩ => ⟨S16x100000, .f32⟩
  | .hbm, ⟨102, _⟩ => ⟨S_, .f32⟩
  | .hbm, ⟨103, _⟩ => ⟨S16x100000, .f32⟩
  | .hbm, ⟨104, _⟩ => ⟨S16x100000, .i1⟩
  | _, _ => ⟨S16x100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_9 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_10 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c : Ref sig .tc := ⟨.hbm, 47, rfl⟩
abbrev main_c_11 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v33 : Ref sig .tc := ⟨.hbm, 54, rfl⟩
abbrev main_v34 : Ref sig .tc := ⟨.hbm, 55, rfl⟩
abbrev main_c_12 : Ref sig .tc := ⟨.hbm, 56, rfl⟩
abbrev main_c_13 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_14 : Ref sig .tc := ⟨.hbm, 67, rfl⟩
abbrev main_v39 : Ref sig .tc := ⟨.hbm, 68, rfl⟩
abbrev main_v40 : Ref sig .tc := ⟨.hbm, 69, rfl⟩
abbrev main_c_15 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_16 : Ref sig .tc := ⟨.hbm, 74, rfl⟩
abbrev main_v44 : Ref sig .tc := ⟨.hbm, 75, rfl⟩
abbrev main_v45 : Ref sig .tc := ⟨.hbm, 76, rfl⟩
abbrev main_c_17 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_18 : Ref sig .tc := ⟨.hbm, 81, rfl⟩
abbrev main_v49 : Ref sig .tc := ⟨.hbm, 82, rfl⟩
abbrev main_v50 : Ref sig .tc := ⟨.hbm, 83, rfl⟩
abbrev main_c_19 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_c_20 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_21 : Ref sig .tc := ⟨.hbm, 98, rfl⟩
abbrev main_call4_v0 : Ref sig .tc := ⟨.hbm, 99, rfl⟩
abbrev main_call4_v1 : Ref sig .tc := ⟨.hbm, 100, rfl⟩
abbrev main_v63 : Ref sig .tc := ⟨.hbm, 101, rfl⟩
abbrev main_cst_22 : Ref sig .tc := ⟨.hbm, 102, rfl⟩
abbrev main_v64 : Ref sig .tc := ⟨.hbm, 103, rfl⟩
abbrev main_v65 : Ref sig .tc := ⟨.hbm, 104, rfl⟩

abbrev nD : Nat := 1
abbrev τ : Topo := Topo.v7x

variable {F : FTy → Type} [FloatOps F]
-- ==== ScCall.lean ====
abbrev S16x16640 : Shape := ⟨2, ![16, 16640]⟩
abbrev S1600000 : Shape := ⟨1, ![1600000]⟩
abbrev S16640 : Shape := ⟨1, ![16640]⟩
abbrev S50000 : Shape := ⟨1, ![50000]⟩
abbrev S_ : Shape := ⟨0, ![]⟩
abbrev S1x16640 : Shape := ⟨2, ![1, 16640]⟩
abbrev S16 : Shape := ⟨1, ![16]⟩

abbrev nBuf : Table → Nat
  | .hbm => 3
  | .local .scVector .vmem => 3
  | _ => 0

abbrev bufTy : (tb : Table) → Fin (nBuf tb) → BufTy
  | .hbm, ⟨0, _⟩ => ⟨S16x16640, .i32⟩
  | .hbm, ⟨1, _⟩ => ⟨S1600000, .i32⟩
  | .hbm, ⟨2, _⟩ => ⟨S1600000, .i32⟩
  | .local .scVector .vmem, ⟨0, _⟩ => ⟨S16640, .i32⟩
  | .local .scVector .vmem, ⟨1, _⟩ => ⟨S50000, .i32⟩
  | .local .scVector .vmem, ⟨2, _⟩ => ⟨S50000, .i32⟩
  | _, _ => ⟨S16x16640, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_9_r0 : BitVec 32 := 0#32
  ![v18.toNat, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v19 : BitVec 32 := Scalar.muli v1 c50000_i32
  ![v19.toNat]
@[reducible] def k0_t1_loop : Scf.Loop 32 :=
  let c0_i32_6 : BitVec 32 := 0#32
  let c625_i32 : BitVec 32 := 625#32
  let v20 : BitVec 32 := Scalar.addi c0_i32_6 c625_i32
  let c1_i32_7 : BitVec 32 := 1#32
  ⟨c0_i32_6, v20, c1_i32_7⟩
def k0_off3 (k0_t1 : Fin k0_t1_loop.trips) : Fin 1 → Nat :=
  let c0_i32_6 : BitVec 32 := 0#32
  let c1_i32_7 : BitVec 32 := 1#32
  let arg8 : BitVec 32 := Scf.iv c0_i32_6 c1_i32_7 k0_t1
  let c5_i32 : BitVec 32 := 5#32
  let v21 : BitVec 32 := Scalar.muli arg8 c5_i32
  let c0_i32_9 : BitVec 32 := 0#32
  let v22 : BitVec 32 := Scalar.addi v21 c0_i32_9
  let c16_i32 : BitVec 32 := 16#32
  let v23 : BitVec 32 := Scalar.muli v22 c16_i32
  let v24 : Index := Scalar.indexCast v23
  ![v24.toNat]

def k0_chk1 (v27 : IVec S16 32) : Prop :=
  (∀ a x, ((![v27] : Fin 1 → IVec S16 32) a x).toNat < S16640.size a)
theorem k0_idx1_inb : ∀ (v27 : IVec S16 32) (k0_hw1 : k0_chk1 v27), ∀ a x, ((![v27] : Fin 1 → IVec S16 32) a x).toNat < S16640.size a := fun v27 k0_hw1 => k0_hw1
def k0_off4 (k0_t1 : Fin k0_t1_loop.trips) (c0_i32_9 : BitVec 32) : Fin 1 → Nat :=
  let c0_i32_6 : BitVec 32 := 0#32
  let c1_i32_7 : BitVec 32 := 1#32
  let arg8 : BitVec 32 := Scf.iv c0_i32_6 c1_i32_7 k0_t1
  let c5_i32 : BitVec 32 := 5#32
  let v21 : BitVec 32 := Scalar.muli arg8 c5_i32
  let v22 : BitVec 32 := Scalar.addi v21 c0_i32_9
  let c16_i32 : BitVec 32 := 16#32
  let v23 : BitVec 32 := Scalar.muli v22 c16_i32
  let v34 : Index := Scalar.indexCast v23
  ![v34.toNat]

def k0_chk2 (v42 : IVec S16 32) : Prop :=
  (∀ a x, ((![v42] : Fin 1 → IVec S16 32) a x).toNat < S16640.size a)
theorem k0_idx2_inb : ∀ (v42 : IVec S16 32) (k0_hw2 : k0_chk2 v42), ∀ a x, ((![v42] : Fin 1 → IVec S16 32) a x).toNat < S16640.size a := fun v42 k0_hw2 => k0_hw2
def k0_off5 (k0_t1 : Fin k0_t1_loop.trips) (c1_i32_12 : BitVec 32) : Fin 1 → Nat :=
  let c0_i32_6 : BitVec 32 := 0#32
  let c1_i32_7 : BitVec 32 := 1#32
  let arg8 : BitVec 32 := Scf.iv c0_i32_6 c1_i32_7 k0_t1
  let c5_i32_11 : BitVec 32 := 5#32
  let v36 : BitVec 32 := Scalar.muli arg8 c5_i32_11
  let v37 : BitVec 32 := Scalar.addi v36 c1_i32_12
  let c16_i32_13 : BitVec 32 := 16#32
  let v38 : BitVec 32 := Scalar.muli v37 c16_i32_13
  let v49 : Index := Scalar.indexCast v38
  ![v49.toNat]

def k0_chk3 (v57 : IVec S16 32) : Prop :=
  (∀ a x, ((![v57] : Fin 1 → IVec S16 32) a x).toNat < S16640.size a)
theorem k0_idx3_inb : ∀ (v57 : IVec S16 32) (k0_hw3 : k0_chk3 v57), ∀ a x, ((![v57] : Fin 1 → IVec S16 32) a x).toNat < S16640.size a := fun v57 k0_hw3 => k0_hw3
def k0_off6 (k0_t1 : Fin k0_t1_loop.trips) (c2_i32_18 : BitVec 32) : Fin 1 → Nat :=
  let c0_i32_6 : BitVec 32 := 0#32
  let c1_i32_7 : BitVec 32 := 1#32
  let arg8 : BitVec 32 := Scf.iv c0_i32_6 c1_i32_7 k0_t1
  let c5_i32_17 : BitVec 32 := 5#32
  let v51 : BitVec 32 := Scalar.muli arg8 c5_i32_17
  let v52 : BitVec 32 := Scalar.addi v51 c2_i32_18
  let c16_i32_19 : BitVec 32 := 16#32
  let v53 : BitVec 32 := Scalar.muli v52 c16_i32_19
  let v64 : Index := Scalar.indexCast v53
  ![v64.toNat]

def k0_chk4 (v72 : IVec S16 32) : Prop :=
  (∀ a x, ((![v72] : Fin 1 → IVec S16 32) a x).toNat < S16640.size a)
theorem k0_idx4_inb : ∀ (v72 : IVec S16 32) (k0_hw4 : k0_chk4 v72), ∀ a x, ((![v72] : Fin 1 → IVec S16 32) a x).toNat < S16640.size a := fun v72 k0_hw4 => k0_hw4
def k0_off7 (k0_t1 : Fin k0_t1_loop.trips) (c3_i32 : BitVec 32) : Fin 1 → Nat :=
  let c0_i32_6 : BitVec 32 := 0#32
  let c1_i32_7 : BitVec 32 := 1#32
  let arg8 : BitVec 32 := Scf.iv c0_i32_6 c1_i32_7 k0_t1
  let c5_i32_23 : BitVec 32 := 5#32
  let v66 : BitVec 32 := Scalar.muli arg8 c5_i32_23
  let v67 : BitVec 32 := Scalar.addi v66 c3_i32
  let c16_i32_24 : BitVec 32 := 16#32
  let v68 : BitVec 32 := Scalar.muli v67 c16_i32_24
  let v79 : Index := Scalar.indexCast v68
  ![v79.toNat]

def k0_chk5 (v87 : IVec S16 32) : Prop :=
  (∀ a x, ((![v87] : Fin 1 → IVec S16 32) a x).toNat < S16640.size a)
theorem k0_idx5_inb : ∀ (v87 : IVec S16 32) (k0_hw5 : k0_chk5 v87), ∀ a x, ((![v87] : Fin 1 → IVec S16 32) a x).toNat < S16640.size a := fun v87 k0_hw5 => k0_hw5
def k0_off8 (k0_t1 : Fin k0_t1_loop.trips) : Fin 1 → Nat :=
  let c0_i32_6 : BitVec 32 := 0#32
  let c1_i32_7 : BitVec 32 := 1#32
  let arg8 : BitVec 32 := Scf.iv c0_i32_6 c1_i32_7 k0_t1
  let c5_i32_28 : BitVec 32 := 5#32
  let v81 : BitVec 32 := Scalar.muli arg8 c5_i32_28
  let c4_i32_29 : BitVec 32 := 4#32
  let v82 : BitVec 32 := Scalar.addi v81 c4_i32_29
  let c16_i32_30 : BitVec 32 := 16#32
  let v83 : BitVec 32 := Scalar.muli v82 c16_i32_30
  let v94 : Index := Scalar.indexCast v83
  ![v94.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ScReference.lean ====
abbrev S16x16640 : Shape := ⟨2, ![16, 16640]⟩
abbrev S1600000 : Shape := ⟨1, ![1600000]⟩
abbrev S_ : Shape := ⟨0, ![]⟩
abbrev S1600000x1 : Shape := ⟨2, ![1600000, 1]⟩
abbrev S1600000x2 : Shape := ⟨2, ![1600000, 2]⟩

abbrev nBuf : Space → Nat
  | .hbm => 34
  | .vmem => 0
  | .smem => 0
  | _ => 0

abbrev bufTy : (tb : Table) → Fin (tcTables nBuf tb) → BufTy
  | .hbm, ⟨0, _⟩ => ⟨S16x16640, .i32⟩
  | .hbm, ⟨1, _⟩ => ⟨S1600000, .i32⟩
  | .hbm, ⟨2, _⟩ => ⟨S1600000, .i32⟩
  | .hbm, ⟨3, _⟩ => ⟨S_, .i32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x1, .i32⟩
  | .hbm, ⟨28, _⟩ => ⟨S1600000x2, .i32⟩
  | .hbm, ⟨29, _⟩ => ⟨S1600000, .i32⟩
  | .hbm, ⟨30, _⟩ => ⟨S1600000, .i32⟩
  | .hbm, ⟨31, _⟩ => ⟨S_, .i32⟩
  | .hbm, ⟨32, _⟩ => ⟨S1600000, .i32⟩
  | .hbm, ⟨33, _⟩ => ⟨S1600000, .i32⟩
  | _, _ => ⟨S16x16640, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_v7 : Ref sig .tc := ⟨.hbm, 13, rfl⟩
abbrev main_v8 : Ref sig .tc := ⟨.hbm, 14, rfl⟩
abbrev main_c_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_4 : Ref sig .tc := ⟨.hbm, 19, rfl⟩
abbrev main_v12 : Ref sig .tc := ⟨.hbm, 20, rfl⟩
abbrev main_v13 : Ref sig .tc := ⟨.hbm, 21, rfl⟩
abbrev main_c_5 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_6 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Proof.Words.lean ====
/-
  The two constant matrices' words, entry by entry, in closed form, and the selectors that the constants' texts are
  compared with (Literals0 … Literals3).
-/
module

public import proofs.«01_k».proof.KernelIdeal

@[expose] public section

namespace Cert.Proof.Lit

/-- The word of entry `n` (row-major, 200 columns) of the matrix that adds the two coordinates into an index: in column `k`
    it holds 4, 2048, 1 and 512 in the rows `2k`, `2k + 1`, `400 + 2k` and `401 + 2k`, and 0 elsewhere. -/
def mixWord (n : ℕ) : BitVec 32 :=
  cond (Nat.beq (n / 200) (2 * (n % 200))) 0x40800000#32
    (cond (Nat.beq (n / 200) (2 * (n % 200) + 1)) 0x45000000#32
      (cond (Nat.beq (n / 200) (400 + 2 * (n % 200))) 0x3F800000#32
        (cond (Nat.beq (n / 200) (401 + 2 * (n % 200))) 0x44000000#32 0#32)))

/-- The word of entry `n` (row-major, 32 columns) of the matrix that packs sixteen bits into a word: row `x` holds
    `2 ^ (x % 16)` in column `x / 16`, and 0 elsewhere. -/
def packWord (n : ℕ) : BitVec 32 :=
  cond (Nat.beq (n % 32) (n / 32 / 16)) (BitVec.ofNat 32 (0x3F800000 + n / 32 % 16 * 0x800000)) 0#32

/-- The first 128 values of `h`, by a match as the constants' texts have it. -/
abbrev sel128 (h : ℕ → BitVec 32) (x : ℕ) : BitVec 32 := match x with
  | 0 => h 0 | 1 => h 1 | 2 => h 2 | 3 => h 3 | 4 => h 4 | 5 => h 5 | 6 => h 6 | 7 => h 7
  | 8 => h 8 | 9 => h 9 | 10 => h 10 | 11 => h 11 | 12 => h 12 | 13 => h 13 | 14 => h 14 | 15 => h 15
  | 16 => h 16 | 17 => h 17 | 18 => h 18 | 19 => h 19 | 20 => h 20 | 21 => h 21 | 22 => h 22 | 23 => h 23
  | 24 => h 24 | 25 => h 25 | 26 => h 26 | 27 => h 27 | 28 => h 28 | 29 => h 29 | 30 => h 30 | 31 => h 31
  | 32 => h 32 | 33 => h 33 | 34 => h 34 | 35 => h 35 | 36 => h 36 | 37 => h 37 | 38 => h 38 | 39 => h 39
  | 40 => h 40 | 41 => h 41 | 42 => h 42 | 43 => h 43 | 44 => h 44 | 45 => h 45 | 46 => h 46 | 47 => h 47
  | 48 => h 48 | 49 => h 49 | 50 => h 50 | 51 => h 51 | 52 => h 52 | 53 => h 53 | 54 => h 54 | 55 => h 55
  | 56 => h 56 | 57 => h 57 | 58 => h 58 | 59 => h 59 | 60 => h 60 | 61 => h 61 | 62 => h 62 | 63 => h 63
  | 64 => h 64 | 65 => h 65 | 66 => h 66 | 67 => h 67 | 68 => h 68 | 69 => h 69 | 70 => h 70 | 71 => h 71
  | 72 => h 72 | 73 => h 73 | 74 => h 74 | 75 => h 75 | 76 => h 76 | 77 => h 77 | 78 => h 78 | 79 => h 79
  | 80 => h 80 | 81 => h 81 | 82 => h 82 | 83 => h 83 | 84 => h 84 | 85 => h 85 | 86 => h 86 | 87 => h 87
  | 88 => h 88 | 89 => h 89 | 90 => h 90 | 91 => h 91 | 92 => h 92 | 93 => h 93 | 94 => h 94 | 95 => h 95
  | 96 => h 96 | 97 => h 97 | 98 => h 98 | 99 => h 99 | 100 => h 100 | 101 => h 101 | 102 => h 102 | 103 => h 103
  | 104 => h 104 | 105 => h 105 | 106 => h 106 | 107 => h 107 | 108 => h 108 | 109 => h 109 | 110 => h 110 | 111 => h 111
  | 112 => h 112 | 113 => h 113 | 114 => h 114 | 115 => h 115 | 116 => h 116 | 117 => h 117 | 118 => h 118 | 119 => h 119
  | 120 => h 120 | 121 => h 121 | 122 => h 122 | 123 => h 123 | 124 => h 124 | 125 => h 125 | 126 => h 126 | 127 => h 127
  | _ => 0#32

/-- The first 98 values of `h`, by a match as the constants' texts have it. -/
abbrev sel98 (h : ℕ → BitVec 32) (x : ℕ) : BitVec 32 := match x with
  | 0 => h 0 | 1 => h 1 | 2 => h 2 | 3 => h 3 | 4 => h 4 | 5 => h 5 | 6 => h 6 | 7 => h 7
  | 8 => h 8 | 9 => h 9 | 10 => h 10 | 11 => h 11 | 12 => h 12 | 13 => h 13 | 14 => h 14 | 15 => h 15
  | 16 => h 16 | 17 => h 17 | 18 => h 18 | 19 => h 19 | 20 => h 20 | 21 => h 21 | 22 => h 22 | 23 => h 23
  | 24 => h 24 | 25 => h 25 | 26 => h 26 | 27 => h 27 | 28 => h 28 | 29 => h 29 | 30 => h 30 | 31 => h 31
  | 32 => h 32 | 33 => h 33 | 34 => h 34 | 35 => h 35 | 36 => h 36 | 37 => h 37 | 38 => h 38 | 39 => h 39
  | 40 => h 40 | 41 => h 41 | 42 => h 42 | 43 => h 43 | 44 => h 44 | 45 => h 45 | 46 => h 46 | 47 => h 47
  | 48 => h 48 | 49 => h 49 | 50 => h 50 | 51 => h 51 | 52 => h 52 | 53 => h 53 | 54 => h 54 | 55 => h 55
  | 56 => h 56 | 57 => h 57 | 58 => h 58 | 59 => h 59 | 60 => h 60 | 61 => h 61 | 62 => h 62 | 63 => h 63
  | 64 => h 64 | 65 => h 65 | 66 => h 66 | 67 => h 67 | 68 => h 68 | 69 => h 69 | 70 => h 70 | 71 => h 71
  | 72 => h 72 | 73 => h 73 | 74 => h 74 | 75 => h 75 | 76 => h 76 | 77 => h 77 | 78 => h 78 | 79 => h 79
  | 80 => h 80 | 81 => h 81 | 82 => h 82 | 83 => h 83 | 84 => h 84 | 85 => h 85 | 86 => h 86 | 87 => h 87
  | 88 => h 88 | 89 => h 89 | 90 => h 90 | 91 => h 91 | 92 => h 92 | 93 => h 93 | 94 => h 94 | 95 => h 95
  | 96 => h 96 | 97 => h 97
  | _ => 0#32

theorem sel128_eq (h : ℕ → BitVec 32) (x : ℕ) (hx : x < 128) : sel128 h x = h x := by
  iterate 128 (obtain hx | rfl := Nat.lt_succ_iff_lt_or_eq.mp hx; swap; · rfl)
  exact absurd hx (Nat.not_lt_zero _)
theorem sel98_eq (h : ℕ → BitVec 32) (x : ℕ) (hx : x < 98) : sel98 h x = h x := by
  iterate 98 (obtain hx | rfl := Nat.lt_succ_iff_lt_or_eq.mp hx; swap; · rfl)
  exact absurd hx (Nat.not_lt_zero _)

/-- Block `b` of the first matrix: its entries from `16384 * b` on, two digits to base 128. -/
abbrev mixBlk (b i : ℕ) : BitVec 32 :=
  sel128 (fun a => sel128 (fun c => mixWord (16384 * b + (128 * a + c))) (i % 128)) (i / 128 % 128)

end Cert.Proof.Lit

end
-- ==== Proof.Literals0.lean ====
/-
  The constants' texts are their closed forms (Words.lean): blocks of the first matrix.
-/
module

public import proofs.«01_k».proof.Proof.Words

@[expose] public section

namespace Cert.Proof.Lit

set_option maxRecDepth 1000000
set_option maxHeartbeats 0

theorem mix_0 (i : ℕ) : Cert.KernelIdeal.lit0t1_0 i = mixBlk 0 i := (rfl)
theorem mix_1 (i : ℕ) : Cert.KernelIdeal.lit0t1_1 i = mixBlk 1 i := (rfl)
theorem mix_2 (i : ℕ) : Cert.KernelIdeal.lit0t1_2 i = mixBlk 2 i := (rfl)

end Cert.Proof.Lit

end
-- ==== Proof.Literals1.lean ====
/-
  The constants' texts are their closed forms (Words.lean): blocks of the first matrix.
-/
module

public import proofs.«01_k».proof.Proof.Words

@[expose] public section

namespace Cert.Proof.Lit

set_option maxRecDepth 1000000
set_option maxHeartbeats 0

theorem mix_3 (i : ℕ) : Cert.KernelIdeal.lit0t1_3 i = mixBlk 3 i := (rfl)
theorem mix_4 (i : ℕ) : Cert.KernelIdeal.lit0t1_4 i = mixBlk 4 i := (rfl)
theorem mix_5 (i : ℕ) : Cert.KernelIdeal.lit0t1_5 i = mixBlk 5 i := (rfl)

end Cert.Proof.Lit

end
-- ==== Proof.Literals2.lean ====
/-
  The constants' texts are their closed forms (Words.lean): blocks of the first matrix.
-/
module

public import proofs.«01_k».proof.Proof.Words

@[expose] public section

namespace Cert.Proof.Lit

set_option maxRecDepth 1000000
set_option maxHeartbeats 0

theorem mix_6 (i : ℕ) : Cert.KernelIdeal.lit0t1_6 i = mixBlk 6 i := (rfl)
theorem mix_7 (i : ℕ) : Cert.KernelIdeal.lit0t1_7 i = mixBlk 7 i := (rfl)
theorem mix_8 (i : ℕ) : Cert.KernelIdeal.lit0t1_8 i = mixBlk 8 i := (rfl)

end Cert.Proof.Lit

end
-- ==== Proof.Literals3.lean ====
/-
  The constants' texts are their closed forms (Words.lean): blocks of the first matrix, and the second matrix.
-/
module

public import proofs.«01_k».proof.Proof.Words

@[expose] public section

namespace Cert.Proof.Lit

set_option maxRecDepth 1000000
set_option maxHeartbeats 0

theorem mix_9 (i : ℕ) : Cert.KernelIdeal.lit0t1_9 i
    = sel98 (fun a => sel128 (fun c => mixWord (147456 + (128 * a + c))) (i % 128)) (i / 128 % 128) := (rfl)

theorem pack_all (i : ℕ) : Cert.KernelIdeal.lit1t i
    = sel128 (fun a => sel128 (fun c => packWord (128 * a + c)) (i % 128)) (i / 128) := (rfl)

end Cert.Proof.Lit

end
-- ==== Proof.Scalars.lean ====
/-
  One coordinate and one point, at the extended reals: the pixel that a coordinate names (`pixel`), the number that the
  kernel makes of it (`coord`, ten million outside the image), the two digits that it splits it into, and the index word of
  a point (`idxWord`).
-/
module

public import Idealize.ShloMosaic.Lib.IdealHost

@[expose] public section

noncomputable section

namespace Cert.Proof.Sc

open Idealize.ShloMosaic

/-- A natural number as a float value. -/
abbrev nat (n : ℕ) : EReal := ((n : ℝ) : EReal)

/-! ## The words of the programs' constants -/

theorem w_two : Ideal.ofBits .f32 0x40000000#32 = nat 2 := by
  rw [show nat 2 = ((2 : ℝ) : EReal) from congrArg Real.toEReal (Nat.cast_ofNat (n := 2))]
  simp [Ideal.ofBits, Ideal.ieee, -EReal.coe_mul]; norm_num
theorem w_four : Ideal.ofBits .f32 0x40800000#32 = nat 4 := by
  rw [show nat 4 = ((4 : ℝ) : EReal) from congrArg Real.toEReal (Nat.cast_ofNat (n := 4))]
  simp [Ideal.ofBits, Ideal.ieee, -EReal.coe_mul]; norm_num
theorem w_511 : Ideal.ofBits .f32 0x43FF8000#32 = nat 511 := by
  rw [show nat 511 = ((511 : ℝ) : EReal) from congrArg Real.toEReal (Nat.cast_ofNat (n := 511))]
  simp [Ideal.ofBits, Ideal.ieee, -EReal.coe_mul]; norm_num
theorem w_512 : Ideal.ofBits .f32 0x44000000#32 = nat 512 := by
  rw [show nat 512 = ((512 : ℝ) : EReal) from congrArg Real.toEReal (Nat.cast_ofNat (n := 512))]
  simp [Ideal.ofBits, Ideal.ieee, -EReal.coe_mul]; norm_num
theorem w_2048 : Ideal.ofBits .f32 0x45000000#32 = nat 2048 := by
  rw [show nat 2048 = ((2048 : ℝ) : EReal) from congrArg Real.toEReal (Nat.cast_ofNat (n := 2048))]
  simp [Ideal.ofBits, Ideal.ieee, -EReal.coe_mul]; norm_num
theorem w_1e7 : Ideal.ofBits .f32 0x4B189680#32 = nat 10000000 := by
  rw [show nat 10000000 = ((10000000 : ℝ) : EReal) from congrArg Real.toEReal (Nat.cast_ofNat (n := 10000000))]
  simp [Ideal.ofBits, Ideal.ieee, -EReal.coe_mul]
theorem w_quarter : Ideal.ofBits .f32 0x3E800000#32 = ((1 / 4 : ℝ) : EReal) := by
  simp [Ideal.ofBits, Ideal.ieee, -EReal.coe_mul]; norm_num
theorem w_limit : Ideal.ofBits .f32 0x487FFFE0#32 = ((524287 / 2 : ℝ) : EReal) := by
  simp [Ideal.ofBits, Ideal.ieee, -EReal.coe_mul]; norm_num
theorem w_one : Ideal.ofBits .f32 0x3F800000#32 = nat 1 := by
  rw [Ideal.ofBits_one_f32]; simp
theorem w_zero : Ideal.ofBits .f32 0x00000000#32 = nat 0 := by
  rw [Ideal.ofBits_zero_f32]; simp

/-! ## The pixel of a coordinate -/

/-- The pixel coordinate nearest the normalized coordinate `q` of an image of 512 pixels a side. -/
def pixel (q : EReal) : EReal :=
  Ideal.liftRound Ideal.roundHalfEven (Ideal.div
    ((q + Ideal.ofBits .f32 0x3F800000#32) * Ideal.ofBits .f32 0x44000000#32 - Ideal.ofBits .f32 0x3F800000#32)
    (Ideal.ofBits .f32 0x40000000#32))

/-- The pixel lies in the image. -/
def Inside (q : EReal) : Prop := nat 0 ≤ pixel q ∧ pixel q ≤ nat 511

open Classical in
/-- The pixel as a number, and ten million where it lies outside the image. -/
def coord (q : EReal) : ℕ := if Inside q then ⌊(pixel q).toReal⌋₊ else 10000000

/-- A pixel that is not an infinity is an integer. -/
theorem pixel_cases (q : EReal) : pixel q = ⊥ ∨ pixel q = ⊤ ∨ ∃ n : ℤ, pixel q = ((n : ℝ) : EReal) := by
  unfold pixel
  generalize Ideal.div _ _ = z
  induction z using EReal.rec with
  | bot => exact .inl rfl
  | top => exact .inr (.inl rfl)
  | coe r => exact .inr (.inr ⟨_, rfl⟩)

/-- A pixel of the image is the number `coord`, below 512, -/
theorem inside_coord {q : EReal} (h : Inside q) : coord q < 512 ∧ pixel q = nat (coord q) := by
  obtain e | e | ⟨n, e⟩ := pixel_cases q
  · exact absurd h.1 (by rw [e]; simp)
  · exact absurd (top_le_iff.mp (e ▸ h.2)) (EReal.coe_ne_top _)
  · have h0 : (0 : ℤ) ≤ n := by
      have := h.1; rw [e, EReal.coe_le_coe_iff] at this; exact_mod_cast this
    have h1 : n ≤ 511 := by
      have := h.2; rw [e, EReal.coe_le_coe_iff] at this; exact_mod_cast this
    obtain ⟨k, rfl⟩ := Int.eq_ofNat_of_zero_le h0
    have hc : coord q = k := by
      unfold coord; rw [if_pos h, e, EReal.toReal_coe]; simp
    rw [hc, e]
    exact ⟨by omega, by simp⟩
/-- and outside it `coord` is ten million. -/
theorem outside_coord {q : EReal} (h : ¬Inside q) : coord q = 10000000 := by
  unfold coord; rw [if_neg h]

theorem coord_lt_iff (q : EReal) : coord q < 512 ↔ Inside q :=
  ⟨fun h => by by_contra hn; rw [outside_coord hn] at h; omega, fun h => (inside_coord h).1⟩

/-- The kernel's clip keeps a pixel of the image. -/
theorem clip_inside {q : EReal} (h : Inside q) : min (nat 511) (max (nat 0) (pixel q)) = nat (coord q) := by
  rw [max_eq_right h.1, min_eq_right h.2, (inside_coord h).2]

/-! ## The two digits to base four -/

theorem floor_quarter (n : ℕ) : Ideal.liftRound Int.floor (nat n * ((1 / 4 : ℝ) : EReal)) = nat (n / 4) := by
  rw [← EReal.coe_mul]
  show ((⌊(n : ℝ) * (1 / 4)⌋ : ℝ) : EReal) = _
  have : ⌊(n : ℝ) * (1 / 4)⌋ = ((n / 4 : ℕ) : ℤ) := by
    rw [show (n : ℝ) * (1 / 4) = (n : ℝ) / (4 : ℕ) by push_cast; ring]
    rw [Int.floor_div_natCast, Int.floor_natCast]; rfl
  rw [this]; rfl
theorem rest_quarter (n : ℕ) : nat n - nat 4 * nat (n / 4) = nat (n % 4) := by
  rw [← EReal.coe_mul, ← EReal.coe_sub]
  congr 1
  have h : (n : ℝ) = 4 * (n / 4 : ℕ) + (n % 4 : ℕ) := by exact_mod_cast (Nat.div_add_mod n 4).symm
  linarith

/-! ## The index word of a point -/

/-- The index of the point with the numbers `x`, `y` in column `c` of its block: row by row in the image, and past every
    image's last pixel where the point lies outside. -/
def idxWord (x y c : ℕ) : BitVec 32 := if x + 512 * y ≤ 262143 then BitVec.ofNat 32 (x + 512 * y) else BitVec.ofNat 32 (262144 + c)

theorem fptosi_nat (n : ℕ) (h : n < 2147483648) : Ideal.fptosi 32 (nat n) = BitVec.ofNat 32 n := by
  unfold Ideal.fptosi
  rw [Ideal.toIntClamped_coe, if_pos (by positivity), Int.floor_natCast]
  rw [min_eq_right (by norm_num; omega), max_eq_right (by norm_num)]
  exact BitVec.ofInt_natCast 32 n

theorem lt_limit (n : ℕ) : ((524287 / 2 : ℝ) : EReal) < nat n ↔ 262143 < n := by
  rw [EReal.coe_lt_coe_iff]
  constructor
  · intro h; by_contra hn
    have : (n : ℝ) ≤ 262143 := by exact_mod_cast not_lt.mp hn
    linarith
  · intro h
    have : (262144 : ℝ) ≤ n := by exact_mod_cast h
    linarith

theorem nat_sum {ι : Type} (s : Finset ι) (f : ι → ℕ) : ∑ i ∈ s, nat (f i) = nat (∑ i ∈ s, f i) := by
  classical
  induction s using Finset.induction with
  | empty => simp
  | insert a s ha ih => rw [Finset.sum_insert ha, Finset.sum_insert ha, ih, ← EReal.coe_add]; exact congrArg Real.toEReal (Nat.cast_add _ _).symm
theorem nat_mul (a b : ℕ) : nat a * nat b = nat (a * b) := by
  rw [← EReal.coe_mul]; exact congrArg Real.toEReal (Nat.cast_mul _ _).symm

end Cert.Proof.Sc

end
-- ==== Proof.Matrices.lean ====
/-
  The two constant matrices as natural numbers, and the sums that the matrix products over them are.
-/
module

public import proofs.«01_k».proof.Proof.Literals0
public import proofs.«01_k».proof.Proof.Literals1
public import proofs.«01_k».proof.Proof.Literals2
public import proofs.«01_k».proof.Proof.Literals3
public import proofs.«01_k».proof.Proof.Scalars

@[expose] public section

noncomputable section

namespace Cert.Proof.Sc

open Idealize.ShloMosaic Cert.Proof.Lit

/-! ## The matrix that adds the coordinates' digits -/

/-- Its entry in row `k`, column `c`. -/
def mixNat (k c : ℕ) : ℕ :=
  if k = 2 * c then 4 else if k = 2 * c + 1 then 2048 else if k = 400 + 2 * c then 1 else if k = 401 + 2 * c then 512 else 0

theorem lit0_word (n : ℕ) (hn : n < 160000) : Cert.KernelIdeal.lit0t n = mixWord n := by
  have h1 : n / 128 % 128 < 128 := Nat.mod_lt _ (by decide)
  have h0 : n % 128 < 128 := Nat.mod_lt _ (by decide)
  have blk : ∀ b, n / 16384 = b → mixBlk b n = mixWord n := by
    intro b hb
    unfold mixBlk
    rw [sel128_eq _ _ h1, sel128_eq _ _ h0]
    congr 1; omega
  have hb : n / 16384 < 10 := by omega
  unfold Cert.KernelIdeal.lit0t
  generalize hq : n / 16384 = q at hb
  match q, hq with
  | 0, hq => exact (mix_0 n).trans (blk 0 hq)
  | 1, hq => exact (mix_1 n).trans (blk 1 hq)
  | 2, hq => exact (mix_2 n).trans (blk 2 hq)
  | 3, hq => exact (mix_3 n).trans (blk 3 hq)
  | 4, hq => exact (mix_4 n).trans (blk 4 hq)
  | 5, hq => exact (mix_5 n).trans (blk 5 hq)
  | 6, hq => exact (mix_6 n).trans (blk 6 hq)
  | 7, hq => exact (mix_7 n).trans (blk 7 hq)
  | 8, hq => exact (mix_8 n).trans (blk 8 hq)
  | 9, hq =>
    refine (mix_9 n).trans ?_
    rw [sel98_eq _ _ (by omega), sel128_eq _ _ h0]
    congr 1; omega
  | q + 10, _ => omega

theorem mixWord_val (n : ℕ) : Ideal.ofBits .f32 (mixWord n) = nat (mixNat (n / 200) (n % 200)) := by
  unfold mixWord mixNat
  rw [cond_eq_ite, cond_eq_ite, cond_eq_ite, cond_eq_ite]
  simp only [Nat.beq_eq]
  split_ifs
  · exact w_four
  · exact w_2048
  · exact w_one
  · exact w_512
  · exact w_zero

/-- What the product over it sums: four digits, each by its weight. -/
theorem mix_sum (a : ℕ → ℕ) (c : ℕ) (hc : c < 200) :
    ∑ k : Fin 800, a k.val * mixNat k.val c = a (2 * c) * 4 + a (2 * c + 1) * 2048 + a (400 + 2 * c) + a (401 + 2 * c) * 512 := by
  rw [Fin.sum_univ_eq_sum_range (fun k => a k * mixNat k c) 800]
  have hs : ({2 * c, 2 * c + 1, 400 + 2 * c, 401 + 2 * c} : Finset ℕ) ⊆ Finset.range 800 := by
    intro k hk
    simp only [Finset.mem_insert, Finset.mem_singleton] at hk
    rw [Finset.mem_range]; omega
  rw [← Finset.sum_subset hs (fun k _ hk => by
    simp only [Finset.mem_insert, Finset.mem_singleton, not_or] at hk
    unfold mixNat
    rw [if_neg hk.1, if_neg hk.2.1, if_neg hk.2.2.1, if_neg hk.2.2.2, Nat.mul_zero])]
  rw [Finset.sum_insert (by simp only [Finset.mem_insert, Finset.mem_singleton]; omega),
    Finset.sum_insert (by simp only [Finset.mem_insert, Finset.mem_singleton]; omega),
    Finset.sum_insert (by simp only [Finset.mem_singleton]; omega), Finset.sum_singleton]
  have e0 : mixNat (2 * c) c = 4 := by unfold mixNat; rw [if_pos rfl]
  have e1 : mixNat (2 * c + 1) c = 2048 := by unfold mixNat; rw [if_neg (by omega), if_pos rfl]
  have e2 : mixNat (400 + 2 * c) c = 1 := by unfold mixNat; rw [if_neg (by omega), if_neg (by omega), if_pos rfl]
  have e3 : mixNat (401 + 2 * c) c = 512 := by unfold mixNat; rw [if_neg (by omega), if_neg (by omega), if_neg (by omega), if_pos rfl]
  rw [e0, e1, e2, e3]; omega

/-! ## The matrix that packs sixteen bits -/

/-- Its entry in row `x`, column `c`. -/
def packNat (x c : ℕ) : ℕ := if c = x / 16 then 2 ^ (x % 16) else 0

theorem lit1_word (n : ℕ) (hn : n < 16384) : Cert.KernelIdeal.lit1t n = packWord n := by
  rw [pack_all, sel128_eq _ _ (by omega), sel128_eq _ _ (Nat.mod_lt _ (by decide))]
  congr 1; omega

theorem pow_word (k : Fin 16) : Ideal.ofBits .f32 (BitVec.ofNat 32 (0x3F800000 + k.val * 0x800000)) = nat (2 ^ k.val) := by
  have h : ∀ k : Fin 16, ((BitVec.ofNat 32 (0x3F800000 + k.val * 0x800000)).extractLsb' 31 1 == 1#1) = false
      ∧ ((BitVec.ofNat 32 (0x3F800000 + k.val * 0x800000)).extractLsb' 23 8).toNat = 127 + k.val
      ∧ ((BitVec.ofNat 32 (0x3F800000 + k.val * 0x800000)).extractLsb' 0 23).toNat = 0 := by decide
  obtain ⟨h0, h1, h2⟩ := h k
  show Ideal.ieee 8 23 _ = _
  unfold Ideal.ieee
  simp only [h0, h1, h2]
  rw [if_neg (by have := k.isLt; norm_num; omega), if_neg (by omega)]
  refine congrArg Real.toEReal ?_
  push_cast
  rw [show (127 + (k.val : ℤ) - 127 - 23) = (k.val : ℤ) + (-23) by ring, zpow_add₀ (by norm_num), zpow_natCast]
  norm_num
  ring

theorem packWord_val (n : ℕ) : Ideal.ofBits .f32 (packWord n) = nat (packNat (n / 32) (n % 32)) := by
  unfold packWord packNat
  rw [cond_eq_ite]
  simp only [Nat.beq_eq]
  split_ifs
  · exact pow_word ⟨n / 32 % 16, Nat.mod_lt _ (by decide)⟩
  · exact w_zero

/-- The number with the binary digits `t 0`, …, `t (n - 1)`. -/
def bits (t : ℕ → Bool) (n : ℕ) : ℕ := ∑ j ∈ Finset.range n, (t j).toNat * 2 ^ j

theorem bits_lt (t : ℕ → Bool) (n : ℕ) : bits t n < 2 ^ n := by
  induction n with
  | zero => simp [bits]
  | succ n ih =>
    have : bits t (n + 1) = bits t n + (t n).toNat * 2 ^ n := Finset.sum_range_succ _ _
    have h : (t n).toNat ≤ 1 := Bool.toNat_le _
    have := Nat.mul_le_mul_right (2 ^ n) h
    rw [pow_succ]; omega

theorem bits_testBit (t : ℕ → Bool) (n j : ℕ) (hj : j < n) : (bits t n).testBit j = t j := by
  induction n with
  | zero => omega
  | succ n ih =>
    have e : bits t (n + 1) = 2 ^ n * (t n).toNat + bits t n := by
      rw [show bits t (n + 1) = bits t n + (t n).toNat * 2 ^ n from Finset.sum_range_succ _ _, Nat.mul_comm, Nat.add_comm]
    rw [e, Nat.testBit_two_pow_mul_add _ (bits_lt t n)]
    split_ifs with h
    · exact ih h
    · obtain rfl : j = n := by omega
      rw [Nat.sub_self]; cases t j <;> rfl

/-- What the product over it sums: the sixteen bits of the word's pixels. -/
theorem pack_sum (t : ℕ → Bool) (c : ℕ) (hc : c < 32) :
    ∑ x : Fin 512, (t x.val).toNat * packNat x.val c = bits (fun j => t (16 * c + j)) 16 := by
  rw [Fin.sum_univ_eq_sum_range (fun x => (t x).toNat * packNat x c) 512]
  have hs : (Finset.range 16).image (fun j => 16 * c + j) ⊆ Finset.range 512 := by
    intro k hk
    obtain ⟨j, hj, rfl⟩ := Finset.mem_image.mp hk
    rw [Finset.mem_range] at hj ⊢; omega
  rw [← Finset.sum_subset hs (fun k _ hk => by
    have : c ≠ k / 16 := fun e => hk (Finset.mem_image.mpr ⟨k % 16, Finset.mem_range.mpr (Nat.mod_lt _ (by decide)), by omega⟩)
    unfold packNat
    rw [if_neg this, Nat.mul_zero])]
  rw [Finset.sum_image (fun a _ b _ h => by omega)]
  refine Finset.sum_congr rfl fun j hj => ?_
  have hj := Finset.mem_range.mp hj
  unfold packNat
  rw [if_pos (by omega), show (16 * c + j) % 16 = j by omega]

end Cert.Proof.Sc

end
-- ==== Proof.Point.lean ====
/-
  The block of the first TensorCore call at the extended reals: entry (r, c) of its result is the index word of the point
  whose two coordinates lie in row `r`, columns `2c` and `2c + 1` (`point_at`).
-/
module

public import proofs.«01_k».proof.Proof.Matrices
public import proofs.«01_k».proof.Proof.Gen.KernelIdeal
public import proofs.«01_k».proof.Proof.Gen.KernelIdeal.Skeleton
public import Idealize.ShloMosaic.Lib.MatmulPlain
public import Idealize.ShloMosaic.Lib.Pointwise.SelectCore
public import Idealize.ShloMosaic.Lib.Pointwise.Reshape

@[expose] public section

noncomputable section

namespace Cert.Proof.Sc

open Idealize.ShloMosaic Cert.KernelIdeal Cert.KernelIdeal.Gen

/-! ## The pieces of the block's payload -/

variable (v0 : FVec Ideal S800x400 .f32)

/-- The pixels of the block's coordinates, -/
def pixels : FVec Ideal S800x400 .f32 :=
  roundeven (divf (subf (mulf (addf (shapeCast S800x400 v0 shapeCasts_S800x400_S800x400)
    (broadcast S800x400 (Scalar.ofBits .f32 0x3F800000#32 : Ideal .f32))) (broadcast S800x400 (Scalar.ofBits .f32 0x44000000#32 : Ideal .f32)))
    (broadcast S800x400 (Scalar.ofBits .f32 0x3F800000#32 : Ideal .f32))) (broadcast S800x400 (Scalar.ofBits .f32 0x40000000#32 : Ideal .f32)))
/-- ten million in the place of those outside the image, -/
def clipped : FVec Ideal S800x400 .f32 :=
  select (andi (cmpf .oge (pixels v0) (broadcast S800x400 (Scalar.ofBits .f32 0x00000000#32 : Ideal .f32)))
      (cmpf .ole (pixels v0) (broadcast S800x400 (Scalar.ofBits .f32 0x43FF8000#32 : Ideal .f32))))
    (minimumf (broadcast S800x400 (Scalar.ofBits .f32 0x43FF8000#32 : Ideal .f32))
      (maximumf (broadcast S800x400 (Scalar.ofBits .f32 0x00000000#32 : Ideal .f32)) (pixels v0)))
    (broadcast S800x400 (Scalar.ofBits .f32 0x4B189680#32 : Ideal .f32))
/-- their quotients by four, -/
def quarters : FVec Ideal S800x400 .f32 := floor (mulf (clipped v0) (broadcast S800x400 (Scalar.ofBits .f32 0x3E800000#32 : Ideal .f32)))
/-- and the remainders. -/
def rests : FVec Ideal S800x400 .f32 := subf (clipped v0) (mulf (broadcast S800x400 (Scalar.ofBits .f32 0x40800000#32 : Ideal .f32)) (quarters v0))
/-- Both side by side. -/
def digits : FVec Ideal S800x800 .f32 :=
  concatenate S800x800 1 [⟨S800x400, quarters v0⟩, ⟨S800x400, rests v0⟩] concatenates_S800x400_S800x400_S800x800_d1
/-- The product with the matrix. -/
def mixed (M : FVec Ideal S800x200 .f32) : FVec Ideal S800x200 .f32 :=
  matmul dot_S800x800_S800x200_S800x200_1_0_0_1_n_n none (digits v0) M (constant S800x200 .f32 0x00000000#32)

theorem pay_eq (M : FVec Ideal S800x200 .f32) (i : S800x200.Idx) : k0_pay1 (F := Ideal) v0 M i
    = Scalar.select (Ideal.cmp .ogt (mixed v0 M i) (Ideal.ofBits .f32 0x487FFFE0#32))
        (262144#32 + (BitVec.ofNat 32 (0 * S800x200.size 1 + (i 1).val) &&& 4095#32)) (Ideal.fptosi 32 (mixed v0 M i)) := rfl

theorem cmp_inside (q : EReal) :
    (Ideal.cmp .oge (pixel q) (nat 0) &&& Ideal.cmp .ole (pixel q) (nat 511) = 1) ↔ Inside q := by
  show (BitVec.ofBool (decide (nat 0 ≤ pixel q)) &&& BitVec.ofBool (decide (pixel q ≤ nat 511)) = 1#1) ↔ (nat 0 ≤ pixel q ∧ pixel q ≤ nat 511)
  by_cases hp : nat 0 ≤ pixel q <;> by_cases hq : pixel q ≤ nat 511 <;> simp only [hp, hq] <;> decide

theorem pixels_at (j : S800x400.Idx) : pixels v0 j = pixel (v0 j) := by
  have e : shapeCast S800x400 v0 shapeCasts_S800x400_S800x400 j = v0 j := by
    rw [shapeCast_self]
  show Ideal.liftRound Ideal.roundHalfEven (Ideal.div ((shapeCast S800x400 v0 shapeCasts_S800x400_S800x400 j + _) * _ - _) _) = _
  rw [e]; rfl

theorem clipped_at (j : S800x400.Idx) : clipped v0 j = nat (coord (v0 j)) := by
  have e : clipped v0 j = Scalar.select (Ideal.cmp .oge (pixels v0 j) (Ideal.ofBits .f32 0x00000000#32)
        &&& Ideal.cmp .ole (pixels v0 j) (Ideal.ofBits .f32 0x43FF8000#32))
      (min (Ideal.ofBits .f32 0x43FF8000#32) (max (Ideal.ofBits .f32 0x00000000#32) (pixels v0 j))) (Ideal.ofBits .f32 0x4B189680#32) := rfl
  rw [e, pixels_at, w_zero, w_511, w_1e7]
  unfold Scalar.select
  by_cases h : Inside (v0 j)
  · rw [if_pos ((cmp_inside _).mpr h), clip_inside h]
  · rw [if_neg (fun hc => h ((cmp_inside _).mp hc)), outside_coord h]

theorem quarters_at (j : S800x400.Idx) : quarters v0 j = nat (coord (v0 j) / 4) := by
  have e : quarters v0 j = Ideal.liftRound Int.floor (clipped v0 j * Ideal.ofBits .f32 0x3E800000#32) := rfl
  rw [e, clipped_at, w_quarter, floor_quarter]

theorem rests_at (j : S800x400.Idx) : rests v0 j = nat (coord (v0 j) % 4) := by
  have e : rests v0 j = clipped v0 j - Ideal.ofBits .f32 0x40800000#32 * quarters v0 j := rfl
  rw [e, clipped_at, quarters_at, w_four, rest_quarter]

/-- The digit in column `k` of row `r`, of the eight hundred. -/
def digit (r : Fin 800) (k : ℕ) : ℕ :=
  if k < 400 then coord (v0 (ValueIdx.ix2 r ⟨k % 400, Nat.mod_lt _ (by decide)⟩)) / 4
  else coord (v0 (ValueIdx.ix2 r ⟨k % 400, Nat.mod_lt _ (by decide)⟩)) % 4

theorem digits_at (r k : Fin 800) : digits v0 (ValueIdx.ix2 r k) = nat (digit v0 r k.val) := by
  unfold digits digit
  by_cases h : k.val < 400
  · rw [if_pos h, concatenate_pair_apply_left (t := S800x800) (s₁ := S800x400) (s₂ := S800x400) 1 _ _ _ (ValueIdx.ix2 r k) rfl
      (ValueIdx.ix2 r ⟨k.val % 400, Nat.mod_lt _ (by decide)⟩) (fun b => by
        match b with
        | ⟨0, _⟩ => rfl
        | ⟨1, _⟩ => exact Nat.mod_eq_of_lt h), quarters_at]
  · rw [if_neg h, concatenate_pair_apply_right (t := S800x800) (s₁ := S800x400) (s₂ := S800x400) 1 _ _ _ (ValueIdx.ix2 r k) rfl rfl
      (ValueIdx.ix2 r ⟨k.val % 400, Nat.mod_lt _ (by decide)⟩) (fun b hb => by
        match b with
        | ⟨0, _⟩ => rfl
        | ⟨1, _⟩ => exact absurd rfl hb) (by
        have := k.isLt
        show k.val % 400 + 400 = k.val
        omega), rests_at]

/-! ## The block's entry -/

/-- The matrix is the one that adds the digits. -/
def IsMix (M : FVec Ideal S800x200 .f32) : Prop := ∀ (k : Fin 800) (c : Fin 200), M (ValueIdx.ix2 k c) = nat (mixNat k.val c.val)

/-- The index word's number is what the product holds: `x + 512 y`. -/
theorem mixed_at (M : FVec Ideal S800x200 .f32) (hM : IsMix M) (r : Fin 800) (c : Fin 200) :
    mixed v0 M (ValueIdx.ix2 r c) = nat (coord (v0 (ValueIdx.ix2 r ⟨2 * c.val, by omega⟩)) + 512 * coord (v0 (ValueIdx.ix2 r ⟨2 * c.val + 1, by omega⟩))) := by
  have e : mixed v0 M (ValueIdx.ix2 r c) = FloatOps.matmul (DotDims.plain 800 800 200) none (digits v0) M (constant S800x200 .f32 0x00000000#32) (ValueIdx.ix2 r c) := rfl
  rw [e, Ideal.matmul_plain_apply]
  rw [Finset.sum_congr rfl fun k _ => show digits v0 (ValueIdx.ix2 r k) * M (ValueIdx.ix2 k c) = nat (digit v0 r k.val * mixNat k.val c.val) by
    rw [digits_at, hM, nat_mul]]
  rw [nat_sum, mix_sum _ _ c.isLt]
  rw [show (constant S800x200 .f32 0x00000000#32 : FVec Ideal S800x200 .f32) (ValueIdx.ix2 r c) = 0 from Ideal.ofBits_zero_f32, zero_add]
  refine congrArg nat ?_
  have hc := c.isLt
  have d0 : digit v0 r (2 * c.val) = coord (v0 (ValueIdx.ix2 r ⟨2 * c.val, by omega⟩)) / 4 := by
    unfold digit; rw [if_pos (by omega)]; simp only [Nat.mod_eq_of_lt (show 2 * c.val < 400 by omega)]
  have d1 : digit v0 r (2 * c.val + 1) = coord (v0 (ValueIdx.ix2 r ⟨2 * c.val + 1, by omega⟩)) / 4 := by
    unfold digit; rw [if_pos (by omega)]; simp only [Nat.mod_eq_of_lt (show 2 * c.val + 1 < 400 by omega)]
  have d2 : digit v0 r (400 + 2 * c.val) = coord (v0 (ValueIdx.ix2 r ⟨2 * c.val, by omega⟩)) % 4 := by
    unfold digit; rw [if_neg (by omega)]; simp only [show (400 + 2 * c.val) % 400 = 2 * c.val by omega]
  have d3 : digit v0 r (401 + 2 * c.val) = coord (v0 (ValueIdx.ix2 r ⟨2 * c.val + 1, by omega⟩)) % 4 := by
    unfold digit; rw [if_neg (by omega)]; simp only [show (401 + 2 * c.val) % 400 = 2 * c.val + 1 by omega]
  rw [d0, d1, d2, d3]
  have key : ∀ x y : ℕ, x / 4 * 4 + y / 4 * 2048 + x % 4 + y % 4 * 512 = x + 512 * y := by omega
  exact key _ _

theorem point_at (M : FVec Ideal S800x200 .f32) (hM : IsMix M) (r : Fin 800) (c : Fin 200) :
    k0_pay1 (F := Ideal) v0 M (ValueIdx.ix2 r c)
      = idxWord (coord (v0 (ValueIdx.ix2 r ⟨2 * c.val, by omega⟩))) (coord (v0 (ValueIdx.ix2 r ⟨2 * c.val + 1, by omega⟩))) c.val := by
  rw [pay_eq, mixed_at v0 M hM, w_limit]
  generalize coord (v0 (ValueIdx.ix2 r ⟨2 * c.val, _⟩)) = x
  generalize coord (v0 (ValueIdx.ix2 r ⟨2 * c.val + 1, _⟩)) = y
  unfold Scalar.select idxWord
  have hc : (Ideal.cmp .ogt (nat (x + 512 * y)) ((524287 / 2 : ℝ) : EReal) = 1#1) ↔ ¬ (x + 512 * y ≤ 262143) := by
    rw [not_le, ← lt_limit]
    show BitVec.ofBool (decide _) = 1#1 ↔ _
    by_cases hq : ((524287 / 2 : ℝ) : EReal) < nat (x + 512 * y)
    · rw [decide_eq_true hq]; exact ⟨fun _ => hq, fun _ => rfl⟩
    · rw [decide_eq_false hq]; exact ⟨fun h => absurd h (by decide), fun h => absurd h hq⟩
  by_cases h : x + 512 * y ≤ 262143
  · rw [if_pos h]
    exact (if_neg (fun e => hc.mp e h)).trans (fptosi_nat _ (by omega))
  · rw [if_neg h]
    refine (if_pos (hc.mpr h)).trans ?_
    rw [Nat.zero_mul, Nat.zero_add]
    have : ∀ c : Fin 200, 262144#32 + (BitVec.ofNat 32 c.val &&& 4095#32) = BitVec.ofNat 32 (262144 + c.val) := by decide
    exact this c

end Cert.Proof.Sc

end
-- ==== Proof.Asked.lean ====
/-
  What the problem asks of one point, in the extended reals (`answer`): for a point inside its image, whether the pixel it
  names is below the threshold; for a point outside, true. Both programs are shown to compute it.
-/
module

public import proofs.«01_k».proof.Proof.Scalars

@[expose] public section

noncomputable section

namespace Cert.Proof.Sc

open Idealize.ShloMosaic

/-- The pixel's value is below the threshold, the single-precision number nearest 0.97. -/
def below (x : EReal) : Bool := decide (x < Ideal.ofBits .f32 0x3F7851EC#32)

/-- Zero, the value of a point outside, is below the threshold. -/
theorem below_zero : below 0 = true := by
  have h : Ideal.ofBits .f32 0x3F7851EC#32 = ((4068475 / 4194304 : ℝ) : EReal) := by
    simp [Ideal.ofBits, Ideal.ieee, -EReal.coe_mul]; norm_num
  unfold below
  rw [h]
  exact decide_eq_true (EReal.coe_lt_coe_iff.mpr (show (0 : ℝ) < 4068475 / 4194304 by norm_num))

/-- What is asked of point `p` of image `b`: inside the image, whether the pixel it names is below the threshold; outside, true. -/
def answer (P : (⟨3, ![16, 100000, 2]⟩ : Shape).Idx → EReal) (A : (⟨4, ![16, 1, 512, 512]⟩ : Shape).Idx → EReal)
    (b : Fin 16) (p : Fin 100000) : Bool :=
  if coord (P (ValueIdx.ix3 b p 0)) < 512 ∧ coord (P (ValueIdx.ix3 b p 1)) < 512 then
    below (A (ValueIdx.ix4 b 0 (⟨coord (P (ValueIdx.ix3 b p 1)) % 512, Nat.mod_lt _ (by decide)⟩ : Fin 512)
      (⟨coord (P (ValueIdx.ix3 b p 0)) % 512, Nat.mod_lt _ (by decide)⟩ : Fin 512)))
  else true

end Cert.Proof.Sc

end
-- ==== Proof.Table.lean ====
/-
  The block of the second TensorCore call at the extended reals: word (r, w) of its result holds, for a row of the image, the
  sixteen bits of the row's pixels from `16 w` on (`table_at`), and for the rows past the image sixteen ones (`table_past`).
-/
module

public import proofs.«01_k».proof.Proof.Matrices
public import proofs.«01_k».proof.Proof.Asked
public import proofs.«01_k».proof.Proof.Gen.KernelIdeal
public import proofs.«01_k».proof.Proof.Gen.KernelIdeal.Skeleton
public import Idealize.ShloMosaic.Lib.MatmulPlain
public import Idealize.ShloMosaic.Lib.Pointwise.SelectCore
public import Idealize.ShloMosaic.Lib.Pointwise.Reshape

@[expose] public section

noncomputable section

namespace Cert.Proof.Sc

open Idealize.ShloMosaic Cert.KernelIdeal Cert.KernelIdeal.Gen

variable (v0 : FVec Ideal S1x512x512 .f32)

/-- The image's bits, as floats: one where the pixel is below the threshold, else zero. -/
def flags : FVec Ideal S512x512 .f32 :=
  sitofp .f32 (extui 32 (cmpf .olt (shapeCast S512x512 v0 shapeCasts_S1x512x512_S512x512)
    (broadcast S512x512 (Scalar.ofBits .f32 0x3F7851EC#32 : Ideal .f32))) natLt_1_32)
/-- Their product with the matrix that packs sixteen. -/
def packed (M : FVec Ideal S512x32 .f32) : FVec Ideal S512x32 .f32 :=
  matmul dot_S512x512_S512x32_S512x32_1_0_0_1_n_n none (flags v0) M (constant S512x32 .f32 0x00000000#32)
/-- The packed words, and eight rows of ones. -/
def words (M : FVec Ideal S512x32 .f32) : IVec S520x32 32 :=
  concatenate S520x32 0 [⟨S512x32, (fptosi 32 (packed v0 M) : IVec S512x32 32)⟩, ⟨S8x32, broadcast S8x32 65535#32⟩] concatenates_S512x32_S8x32_S520x32_d0

theorem tpay_eq (M : FVec Ideal S512x32 .f32) : k1_pay1 (F := Ideal) v0 M = shapeCast S1x520x32 (words v0 M) shapeCasts_S520x32_S1x520x32 := rfl

theorem flags_at (r x : Fin 512) : flags v0 (ValueIdx.ix2 r x) = nat (below (v0 (ValueIdx.ix3 0 r x))).toNat := by
  have e : shapeCast S512x512 v0 shapeCasts_S1x512x512_S512x512 (ValueIdx.ix2 r x) = v0 (ValueIdx.ix3 0 r x) := by
    refine congrArg v0 (Shape.reshapeEquiv_eq_of_vals _ _ _ (0 * 262144 + r.val * 512 + x.val) (r.val * 512 + x.val)
      (rowMajor_val3 _ 262144 512 rfl rfl) (rowMajor_val2 _ 512 rfl) (by omega))
  have e2 : flags v0 (ValueIdx.ix2 r x) = (((((BitVec.ofBool (decide (shapeCast S512x512 v0 shapeCasts_S1x512x512_S512x512 (ValueIdx.ix2 r x)
      < Ideal.ofBits .f32 0x3F7851EC#32))).setWidth 32).toInt : ℤ) : ℝ) : EReal) := rfl
  rw [e2, e]
  show ((((BitVec.setWidth 32 (BitVec.ofBool (below (v0 (ValueIdx.ix3 0 r x))))).toInt : ℤ) : ℝ) : EReal) = _
  have h : ∀ b : Bool, (BitVec.setWidth 32 (BitVec.ofBool b)).toInt = (b.toNat : ℤ) := by decide
  rw [h, Int.cast_natCast]

/-- The matrix is the one that packs sixteen bits. -/
def IsPack (M : FVec Ideal S512x32 .f32) : Prop := ∀ (x : Fin 512) (c : Fin 32), M (ValueIdx.ix2 x c) = nat (packNat x.val c.val)

/-- Bit `x` of row `r` of the image. -/
def flag (r : Fin 512) (x : ℕ) : Bool := below (v0 (ValueIdx.ix3 0 r ⟨x % 512, Nat.mod_lt _ (by decide)⟩))

theorem packed_at (M : FVec Ideal S512x32 .f32) (hM : IsPack M) (r : Fin 512) (c : Fin 32) :
    packed v0 M (ValueIdx.ix2 r c) = nat (bits (fun j => flag v0 r (16 * c.val + j)) 16) := by
  have e : packed v0 M (ValueIdx.ix2 r c) = FloatOps.matmul (DotDims.plain 512 512 32) none (flags v0) M (constant S512x32 .f32 0x00000000#32) (ValueIdx.ix2 r c) := rfl
  rw [e, Ideal.matmul_plain_apply]
  rw [Finset.sum_congr rfl fun k _ => show flags v0 (ValueIdx.ix2 r k) * M (ValueIdx.ix2 k c) = nat ((flag v0 r k.val).toNat * packNat k.val c.val) by
    rw [flags_at, hM, nat_mul]
    unfold flag
    simp only [Nat.mod_eq_of_lt k.isLt]]
  rw [nat_sum, pack_sum _ _ c.isLt]
  rw [show (constant S512x32 .f32 0x00000000#32 : FVec Ideal S512x32 .f32) (ValueIdx.ix2 r c) = 0 from Ideal.ofBits_zero_f32, zero_add]

theorem tcast_at (M : FVec Ideal S512x32 .f32) (r : Fin 520) (c : Fin 32) : k1_pay1 (F := Ideal) v0 M (ValueIdx.ix3 0 r c) = words v0 M (ValueIdx.ix2 r c) := by
  rw [tpay_eq]
  exact congrArg (words v0 M) (Shape.reshapeEquiv_eq_of_vals _ _ _ (r.val * 32 + c.val) (0 * 16640 + r.val * 32 + c.val)
      (rowMajor_val2 _ 32 rfl) (rowMajor_val3 _ 16640 32 rfl rfl) (by omega))

/-- A word of the image's rows: the sixteen bits. -/
theorem table_at (M : FVec Ideal S512x32 .f32) (hM : IsPack M) (r : Fin 520) (c : Fin 32) (h : r.val < 512) :
    k1_pay1 (F := Ideal) v0 M (ValueIdx.ix3 0 r c) = BitVec.ofNat 32 (bits (fun j => flag v0 ⟨r.val, h⟩ (16 * c.val + j)) 16) := by
  rw [tcast_at]
  unfold words
  rw [concatenate_pair_apply_left (t := S520x32) (s₁ := S512x32) (s₂ := S8x32) 0 _ _ _ (ValueIdx.ix2 r c) rfl
      (ValueIdx.ix2 (⟨r.val, h⟩ : Fin 512) c) (fun b => by match b with | ⟨0, _⟩ => rfl | ⟨1, _⟩ => rfl)]
  show Ideal.fptosi 32 (packed v0 M (ValueIdx.ix2 ⟨r.val, h⟩ c)) = _
  rw [packed_at v0 M hM, fptosi_nat]
  exact lt_of_lt_of_le (bits_lt _ 16) (by decide)

/-- A word of the rows past the image: sixteen ones. -/
theorem table_past (M : FVec Ideal S512x32 .f32) (r : Fin 520) (c : Fin 32) (h : 512 ≤ r.val) :
    k1_pay1 (F := Ideal) v0 M (ValueIdx.ix3 0 r c) = 65535#32 := by
  rw [tcast_at]
  unfold words
  have hr := r.isLt
  rw [concatenate_pair_apply_right (t := S520x32) (s₁ := S512x32) (s₂ := S8x32) 0 _ _ _ (ValueIdx.ix2 r c) rfl rfl
      (ValueIdx.ix2 (⟨r.val - 512, by omega⟩ : Fin 8) c) (fun b hb => by
        match b with
        | ⟨0, _⟩ => exact absurd rfl hb
        | ⟨1, _⟩ => rfl) (by show r.val - 512 + 512 = r.val; omega)]
  rfl

/-- Bit `j` of a packed word. -/
theorem bit_word (t : ℕ → Bool) (j : ℕ) (hj : j < 16) :
    (BitVec.ofNat 32 (bits t 16) >>> j) &&& 1#32 = if t j then 1#32 else 0#32 := by
  have hlt : bits t 16 < 65536 := bits_lt t 16
  have hb := bits_testBit t 16 j hj
  apply BitVec.eq_of_getLsbD_eq
  intro i hi
  rw [BitVec.getLsbD_and, BitVec.getLsbD_ushiftRight, BitVec.getLsbD_ofNat]
  by_cases h0 : i = 0
  · subst h0
    rw [Nat.add_zero, hb]
    cases t j <;> simp; omega
  · have h32 : ∀ i : Fin 32, i.val ≠ 0 → (1#32).getLsbD i.val = false := by decide
    have h1 : (1#32).getLsbD i = false := h32 ⟨i, hi⟩ h0
    rw [h1, Bool.and_false]
    cases t j
    · simp
    · exact h1.symm

end Cert.Proof.Sc

end
-- ==== Proof.Base.lean ====
/-
  What every module of the kernel's run shares: the program as the launch theorem sees it, the resource algebra, the
  three arrays of the SparseCore call, and the value that call computes.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Kern

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores and the SparseCores' buffers, decided. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UK : Type := URounds (GSem nD τ sig) Unit
abbrev UU : Type := UH × (UK × Counters)

/-- The program's algebra of resources. -/
abbrev MM (F : FTy → Type) : Type := MT nD τ sig (HIx 1) (Elt F) ℕ UU ℕ

/-- The handshakes' copy of the rounds library, -/
abbrev EH : Emb UH (MM F) := embL
/-- and the pipelines'. -/
def EP : Emb UK (MM F) := (Emb.inl : Emb UK (UK × Counters)).trans embR

instance EP_landsIn : (EP : Emb UK (MM F)).LandsIn (upEmb : UEmb _ (MM F)) := by unfold EP embR; infer_instance

/-! ## The arrays of the SparseCore call -/

/-- The table's words, as the TensorCore names the array, -/
abbrev tLoc (d : Dev nD) : Loc nD τ sig := (SparseCore.T d).loc main_v4
/-- the points' word-and-bit indices, -/
abbrev iLoc (d : Dev nD) : Loc nD τ sig := (SparseCore.T d).loc main_v5
/-- and the call's result. -/
abbrev oLoc (d : Dev nD) : Loc nD τ sig := (SparseCore.T d).loc main_v6

/-! ## The value of the SparseCore call -/

/-- The bit of the word `w` that the low four bits of the index `c` select. -/
def bitOf (w c : BitVec 32) : BitVec 32 := (w >>> (c &&& 15#32)) &&& 1#32

/-- Word `n` of table row `s`. -/
def tIx (s : Fin 16) (n : ℕ) : S16x16640.Idx := fun
  | 0 => s
  | 1 => (⟨n % 16640, Nat.mod_lt _ (by decide)⟩ : Fin 16640)

/-- The image of the flat position `j`: a hundred thousand points each. -/
def imgOf (j : S1600000.Idx) : Fin 16 := ⟨(j 0).val / 100000, by
  have h : (j 0).val < 1600000 := (j 0).isLt
  omega⟩

/-- What the call leaves at position `j`: from row `imgOf j` of the table, the word that the index names by all but its low
    four bits, and of that word the bit the low four name. -/
def outV (Tb : S16x16640.Idx → BitVec 32) (Ix : S1600000.Idx → BitVec 32) : S1600000.Idx → BitVec 32 :=
  fun j => bitOf (Tb (tIx (imgOf j) (Ix j >>> 4).toNat)) (Ix j)

end Cert.Proof.Kern

end
-- ==== Proof.Body0.lean ====
/-
  The TensorCore call that packs the points' coordinates into indices, one block at a time: the body run on its three
  staging buffers, what each buffer then holds (`dat0`), and the array the ten blocks make (`G0`).
-/
module

public import proofs.«01_k».proof.Proof.Base
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value

@[expose] public section

noncomputable section

namespace Cert.Proof.Kern

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The pairs a core may have recorded while it owes the SparseCores their start: those at the lowest level. -/
def lowPairs (d : Dev nD) : Set (SemLoc sig × HIx 1) := {p | (K (F := F)).lev (T d, p.1) p.2 ≤ 0}

/-- A whole memref owned at `X`: its buffer at contents that read as `X`. -/
theorem owns_of_whole (d : Dev nD) {sp : Space} {sh : Shape} {e : EltTy} {M : Memref sig .tc sp sh e} (h : M.IsWhole)
    (X : sh.Idx → Elt F e) : (owns (T d) M fullShare X : sProp (MM F))
      = iprop(∃ f : Buf (Elt F) (M.view.loc (T d)), ⌜M.view.read (Elt F) f = X⌝ ∗ (M.view.loc (T d) ↦{fullShare} f)) := by
  unfold owns; rw [h.set_eq_univ]

/-! ## The body on its staging buffers -/

/-- From the staged points `x1`, the staged matrix `x2` and any third buffer, the body leaves the first two and puts the
    block of indices in the third. -/
theorem idxRun (d : Dev nD) (i : grid0.Coords) (M1 : Memref sig .tc .vmem S800x400 .f32) (h1 : M1.IsWhole)
    (M2 : Memref sig .tc .vmem S800x200 .f32) (h2 : M2.IsWhole) (M3 : Memref sig .tc .vmem S800x200 .i32) (h3 : M3.IsWhole)
    (f1 : Buf (Elt F) (M1.view.loc (T d))) (f2 : Buf (Elt F) (M2.view.loc (T d))) (f3 : Buf (Elt F) (M3.view.loc (T d)))
    (E : Set ℕ) (Q : PUnit → sProp (MM F)) :
    iprop((M1.view.loc (T d) ↦{fullShare} f1) ∗ (M2.view.loc (T d) ↦{fullShare} f2) ∗ (M3.view.loc (T d) ↦{fullShare} f3)
        ∗ (∀ f, ⌜M3.view.read (Elt F) f = k0_pay1 (M1.view.read (Elt F) f1) (M2.view.read (Elt F) f2)⌝ -∗
            (M1.view.loc (T d) ↦{fullShare} f1) -∗ (M2.view.loc (T d) ↦{fullShare} f2) -∗ (M3.view.loc (T d) ↦{fullShare} f) -∗ Q ⟨⟩))
      ⊢ wp frame (wpE (defs₀ (F := F)) 𝒱₀ (T d) none) E (cc0__idx_body i M1 h1 M2 h2 M3 h3) Q := by
  rw [cc0__idx_body_eq_skeleton]
  unfold cc0__idx_body_skel
  rw [k0_part1_eq_skeleton]
  unfold k0_part1_skel
  iintro ⟨H1, H2, H3, Hk⟩
  sl_exec!
  sl_step
  iapply Hk $$ [] H1 H2 H3
  ipureintro
  unfold idxRun.sl.H3_1
  rw [View.read_writes_junk_eq_canon, View.canon_unit_zero hz2, View.readAt_eq_ld, View.readAt_eq_ld, View.ld_unit_zero hz2, View.ld_unit_zero hz2]

/-! ## What the array holds after the ten blocks -/

/-- Rows `800 t` to `800 t + 799` of the eight thousand rows of coordinates. -/
def rows0 (t : Fin 10) (q : S8000x400.Idx → F .f32) : S800x400.Idx → F .f32 := fun j => q fun
  | 0 => (⟨t.val * 800 + (j 0).val, by have := t.isLt; have h : (j 0).val < 800 := (j 0).isLt; omega⟩ : Fin 8000)
  | 1 => (⟨(j 1).val, (j 1).isLt⟩ : Fin 400)

/-- The block that holds a row of the result, -/
def blkNo (i : S8000x200.Idx) : Fin 10 := ⟨(i 0).val / 800, by have h : (i 0).val < 8000 := (i 0).isLt; omega⟩
/-- and where in that block an entry lies. -/
def blkIx (i : S8000x200.Idx) : S800x200.Idx := fun
  | 0 => (⟨(i 0).val % 800, Nat.mod_lt _ (by decide)⟩ : Fin 800)
  | 1 => (⟨(i 1).val, (i 1).isLt⟩ : Fin 200)

/-- The array of indices as one function of the coordinates and the matrix: each block is the body's block of its rows. -/
def G0 (q : S8000x400.Idx → F .f32) (M : S800x200.Idx → F .f32) : S8000x200.Idx → BitVec 32 :=
  fun i => k0_pay1 (rows0 (blkNo i) q) M (blkIx i)

/-! ## The proof data -/

variable (W : Valuation τ sig (Elt F))

/-- The rows of coordinates staged at point `t`, -/
def q0 (t : Fin cfg0.N) : (cfg0.win 0).block.Idx → Elt F (cfg0.win 0).elt := ((cfg0.win 0).blk t).view.read (Elt F) (W (Proc.devRef .tc main_v1))
/-- and the matrix. -/
def m0 (t : Fin cfg0.N) : (cfg0.win 1).block.Idx → Elt F (cfg0.win 1).elt := ((cfg0.win 1).blk t).view.read (Elt F) (W (Proc.devRef .tc main_cst))

/-- What the three staging buffers hold after the body at each point, and what the core owes meanwhile: the start of the
    SparseCore call that comes later. -/
def dat0 (d : Dev nD) : Dat τ (Elt F) (HIx 1) ℕ UU ℕ cfg0 d where
  A w := W (Proc.devRef .tc (Pipeline.arrRef spec0 w))
  after w t := match w with
    | ⟨0, _⟩ => q0 W t
    | ⟨1, _⟩ => m0 W t
    | ⟨2, _⟩ => k0_pay1 (q0 W t) (m0 W t)
  Φ _ := Pipeline.scopedRest (Ix := HIx 1) (Name := ℕ) (U := UU) (Lvl := ℕ) (Val := Elt F) cfg0.spec d
  q _ := fullShare
  owed _ := (K (F := F)).Otc d 0
  recorded _ := lowPairs (F := F) d

theorem before0_0 (d : Dev nD) (t : Fin cfg0.N) (x) : (dat0 W d).before 0 t x = q0 W t :=
  ((dat0 W d).before_in_eq_fetched 0 rfl (fun _ => rfl) (fun _ _ _ => rfl) (fun _ => rfl) t x).trans rfl

theorem before0_1 (d : Dev nD) (t : Fin cfg0.N) (x) : (dat0 W d).before 1 t x = m0 W t :=
  ((dat0 W d).before_in_eq_fetched 1 rfl (fun _ => rfl) (fun _ _ _ => rfl) (fun _ => rfl) t x).trans rfl

/-- The body obligation at every point of the grid. -/
theorem obligation0 (d : Dev nD) : BodyObligation (dat0 W d) (defs₀ (F := F)) 𝒱₀ none Set.univ := fun t => by
  rw [bigSep_W0, bigSep_W0]
  simp only [owns_of_whole d (M := st0_0 t) (stage_whole0 0 _), owns_of_whole d (M := st0_1 t) (stage_whole0 1 _), owns_of_whole d (M := st0_2 t) (stage_whole0 2 _)]
  rw [show (dat0 W d).Φ t.succ = (dat0 W d).Φ t.castSucc from rfl,
    show (dat0 W d).owesAt none t.succ = (dat0 W d).owesAt none t.castSucc from rfl]
  iintro ⟨HΦ, Howes, ⟨%d0, %f0, %hf0, H0⟩, ⟨%d1, %f1, %hf1, H1⟩, ⟨%d2, %f2, -, H2⟩⟩
  rw [before0_0] at hf0
  rw [before0_1] at hf1
  iapply (idxRun d (grid0.coords t) (st0_0 t) _ (st0_1 t) _ (st0_2 t) _ f0 f1 f2 Set.univ _) $$ [-]
  isplitl [H0]; · iexact H0
  isplitl [H1]; · iexact H1
  isplitl [H2]; · iexact H2
  iintro %f %hf H0 H1 H2
  isplitl [HΦ]; · iexact HΦ
  isplitl [Howes]; · iexact Howes
  isplitl [H0]
  · iexists f0; isplitr; swap; (· iexact H0); ipureintro; dsimp only [dat0]; exact hf0
  isplitl [H1]
  · iexists f1; isplitr; swap; (· iexact H1); ipureintro; dsimp only [dat0]; exact hf1
  iexists f; isplitr; swap; (· iexact H2); ipureintro; dsimp only [dat0]; rw [hf, hf0, hf1]

/-! ## The array after the grid -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)

/-- The staged rows are rows `800 t` on. -/
theorem q0_eq (t : Fin cfg0.N) : q0 W t = rows0 ⟨t.val, t.isLt⟩ (W (Proc.devRef .tc main_v1)) := by
  obtain ⟨e0, e1⟩ := idx0_0 t
  funext j
  show W (Proc.devRef .tc main_v1) (((cfg0.win 0).blk t).view.emb j) = W (Proc.devRef .tc main_v1) _
  congr 1
  funext a; apply Fin.ext
  match a with
  | ⟨0, _⟩ => show win0_0.index t (0 : Fin 2) * 800 + 1 * (j 0).val = t.val * 800 + (j 0).val; omega
  | ⟨1, _⟩ => show win0_0.index t (1 : Fin 2) * 400 + 1 * (j 1).val = (j 1).val; omega

/-- The staged matrix is the whole matrix. -/
theorem m0_eq (t : Fin cfg0.N) : m0 W t = W (Proc.devRef .tc main_cst) := by
  obtain ⟨e0, e1⟩ := idx0_1 t
  funext j
  show W (Proc.devRef .tc main_cst) (((cfg0.win 1).blk t).view.emb j) = W (Proc.devRef .tc main_cst) _
  congr 1
  funext a; apply Fin.ext
  match a with
  | ⟨0, _⟩ => show win0_1.index t (0 : Fin 2) * 800 + 1 * (j 0).val = (j 0).val; omega
  | ⟨1, _⟩ => show win0_1.index t (1 : Fin 2) * 200 + 1 * (j 1).val = (j 1).val; omega

theorem emb0_2 (t : Fin cfg0.N) (j : S800x200.Idx) :
    ((((cfg0.win 2).blk t).view.emb j : S8000x200.Idx) 0).val = t.val * 800 + (j 0).val ∧ ((((cfg0.win 2).blk t).view.emb j : S8000x200.Idx) 1).val = (j 1).val := by
  obtain ⟨e0, e1⟩ := idx0_2 t
  constructor
  · show win0_2.index t (0 : Fin 2) * 800 + 1 * (j 0).val = t.val * 800 + (j 0).val; omega
  · show win0_2.index t (1 : Fin 2) * 200 + 1 * (j 1).val = (j 1).val; omega

/-- What a point writes back is its block of `G0`. -/
theorem flushed0 (d : Dev nD) (t : Fin cfg0.N) :
    (dat0 W d).flushed 2 t = ((cfg0.win 2).blk t).view.read (Elt F) (G0 (W (Proc.devRef .tc main_v1)) (W (Proc.devRef .tc main_cst))) := by
  funext j
  obtain ⟨e0, e1⟩ := emb0_2 t j
  have hj : ((j : S800x200.Idx) 0).val < 800 := (j 0).isLt
  show k0_pay1 (q0 W t) (m0 W t) j = G0 (W (Proc.devRef .tc main_v1)) (W (Proc.devRef .tc main_cst)) (((cfg0.win 2).blk t).view.emb j)
  rw [q0_eq, m0_eq]
  unfold G0
  have hb : blkNo (((cfg0.win 2).blk t).view.emb j) = ⟨t.val, t.isLt⟩ := Fin.ext (by
    show ((((cfg0.win 2).blk t).view.emb j : S8000x200.Idx) 0).val / 800 = t.val
    rw [e0]; omega)
  have hi : blkIx (((cfg0.win 2).blk t).view.emb j) = j := by
    funext a; apply Fin.ext
    match a with
    | ⟨0, _⟩ => show ((((cfg0.win 2).blk t).view.emb j : S8000x200.Idx) 0).val % 800 = (j 0).val; rw [e0]; omega
    | ⟨1, _⟩ => exact e1
  rw [hb, hi]

/-- Every entry of the result is in some point's block. -/
theorem covered0 (i : S8000x200.Idx) : ∃ t : Fin cfg0.N, (cfg0.win 2).flush t = true ∧ i ∈ ((cfg0.win 2).blk t).view.set := by
  refine ⟨⟨(blkNo i).val, (blkNo i).isLt⟩, flush0_2 _, ?_⟩
  have h := ((cfg0.win 2).blk ⟨(blkNo i).val, (blkNo i).isLt⟩).view.emb_mem_set (blkIx i)
  obtain ⟨e0, e1⟩ := emb0_2 ⟨(blkNo i).val, (blkNo i).isLt⟩ (blkIx i)
  have e : ((cfg0.win 2).blk ⟨(blkNo i).val, (blkNo i).isLt⟩).view.emb (blkIx i) = i := by
    funext a; apply Fin.ext
    match a with
    | ⟨0, _⟩ => exact e0.trans (Nat.div_add_mod' _ _)
    | ⟨1, _⟩ => exact e1
  rwa [e] at h

/-- The array of indices after the call. -/
theorem final0 (d : Dev nD) : (dat0 W d).arrAt 2 cfg0.N = G0 (W (Proc.devRef .tc main_v1)) (W (Proc.devRef .tc main_cst)) :=
  (dat0 W d).arrAt_eq_of_cover 2 _ (fun t _ => flushed0 W d t) covered0

end Cert.Proof.Kern

end
-- ==== Proof.Body1.lean ====
/-
  The TensorCore call that packs each image's thresholded pixels into words, one image at a time: the body run on its three
  staging buffers, what each buffer then holds (`dat1`), and the array the sixteen images make (`G1`).
-/
module

public import proofs.«01_k».proof.Proof.Body0
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value

@[expose] public section

noncomputable section

namespace Cert.Proof.Kern

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation)

variable {F : FTy → Type} [FloatOps F]

/-! ## The body on its staging buffers -/

/-- From the staged image, the staged matrix and any third buffer, the body leaves the first two and puts the image's table
    in the third. -/
theorem tblRun (d : Dev nD) (i : grid1.Coords) (M1 : Memref sig .tc .vmem S1x512x512 .f32) (h1 : M1.IsWhole)
    (M2 : Memref sig .tc .vmem S512x32 .f32) (h2 : M2.IsWhole) (M3 : Memref sig .tc .vmem S1x520x32 .i32) (h3 : M3.IsWhole)
    (f1 : Buf (Elt F) (M1.view.loc (T d))) (f2 : Buf (Elt F) (M2.view.loc (T d))) (f3 : Buf (Elt F) (M3.view.loc (T d)))
    (E : Set ℕ) (Q : PUnit → sProp (MM F)) :
    iprop((M1.view.loc (T d) ↦{fullShare} f1) ∗ (M2.view.loc (T d) ↦{fullShare} f2) ∗ (M3.view.loc (T d) ↦{fullShare} f3)
        ∗ (∀ f, ⌜M3.view.read (Elt F) f = k1_pay1 (M1.view.read (Elt F) f1) (M2.view.read (Elt F) f2)⌝ -∗
            (M1.view.loc (T d) ↦{fullShare} f1) -∗ (M2.view.loc (T d) ↦{fullShare} f2) -∗ (M3.view.loc (T d) ↦{fullShare} f) -∗ Q ⟨⟩))
      ⊢ wp frame (wpE (defs₀ (F := F)) 𝒱₀ (T d) none) E (cc1__tbl_body i M1 h1 M2 h2 M3 h3) Q := by
  rw [cc1__tbl_body_eq_skeleton]
  unfold cc1__tbl_body_skel
  iintro ⟨H1, H2, H3, Hk⟩
  sl_exec!
  sl_step
  iapply Hk $$ [] H1 H2 H3
  ipureintro
  unfold tblRun.sl.H3_1
  rw [View.read_writes_junk_eq_canon, View.canon_unit_zero hz3, View.readAt_eq_ld, View.readAt_eq_ld, View.ld_unit_zero hz3, View.ld_unit_zero hz2]

/-! ## What the array holds after the sixteen images -/

/-- Image `t` of the sixteen, as a block. -/
def image1 (t : Fin 16) (q : S16x512x512.Idx → F .f32) : S1x512x512.Idx → F .f32 := fun j => q fun
  | 0 => t
  | 1 => (⟨(j 1).val, (j 1).isLt⟩ : Fin 512)
  | 2 => (⟨(j 2).val, (j 2).isLt⟩ : Fin 512)

/-- Where in its image's block an entry of the tables lies. -/
def tblIx (i : S16x520x32.Idx) : S1x520x32.Idx := fun
  | 0 => (⟨0, Nat.one_pos⟩ : Fin 1)
  | 1 => (⟨(i 1).val, (i 1).isLt⟩ : Fin 520)
  | 2 => (⟨(i 2).val, (i 2).isLt⟩ : Fin 32)

/-- The tables as one function of the images and the matrix: each block is the body's block of its image. -/
def G1 (q : S16x512x512.Idx → F .f32) (M : S512x32.Idx → F .f32) : S16x520x32.Idx → BitVec 32 :=
  fun i => k1_pay1 (image1 ⟨(i 0).val, (i 0).isLt⟩ q) M (tblIx i)

/-! ## The proof data -/

variable (W : Valuation τ sig (Elt F))

/-- The image staged at point `t`, -/
def q1 (t : Fin cfg1.N) : (cfg1.win 0).block.Idx → Elt F (cfg1.win 0).elt := ((cfg1.win 0).blk t).view.read (Elt F) (W (Proc.devRef .tc main_v0))
/-- and the matrix. -/
def m1 (t : Fin cfg1.N) : (cfg1.win 1).block.Idx → Elt F (cfg1.win 1).elt := ((cfg1.win 1).blk t).view.read (Elt F) (W (Proc.devRef .tc main_cst_0))

/-- What the three staging buffers hold after the body at each point, and what the core owes meanwhile: the start of the
    SparseCore call that comes later. -/
def dat1 (d : Dev nD) : Dat τ (Elt F) (HIx 1) ℕ UU ℕ cfg1 d where
  A w := W (Proc.devRef .tc (Pipeline.arrRef spec1 w))
  after w t := match w with
    | ⟨0, _⟩ => q1 W t
    | ⟨1, _⟩ => m1 W t
    | ⟨2, _⟩ => k1_pay1 (q1 W t) (m1 W t)
  Φ _ := Pipeline.scopedRest (Ix := HIx 1) (Name := ℕ) (U := UU) (Lvl := ℕ) (Val := Elt F) cfg1.spec d
  q _ := fullShare
  owed _ := (K (F := F)).Otc d 0
  recorded _ := lowPairs (F := F) d

theorem before1_0 (d : Dev nD) (t : Fin cfg1.N) (x) : (dat1 W d).before 0 t x = q1 W t :=
  ((dat1 W d).before_in_eq_fetched 0 rfl (fun _ => rfl) (fun _ _ _ => rfl) (fun _ => rfl) t x).trans rfl

theorem before1_1 (d : Dev nD) (t : Fin cfg1.N) (x) : (dat1 W d).before 1 t x = m1 W t :=
  ((dat1 W d).before_in_eq_fetched 1 rfl (fun _ => rfl) (fun _ _ _ => rfl) (fun _ => rfl) t x).trans rfl

/-- The body obligation at every point of the grid. -/
theorem obligation1 (d : Dev nD) : BodyObligation (dat1 W d) (defs₀ (F := F)) 𝒱₀ none Set.univ := fun t => by
  rw [bigSep_W1, bigSep_W1]
  simp only [owns_of_whole d (M := st1_0 t) (stage_whole1 0 _), owns_of_whole d (M := st1_1 t) (stage_whole1 1 _), owns_of_whole d (M := st1_2 t) (stage_whole1 2 _)]
  rw [show (dat1 W d).Φ t.succ = (dat1 W d).Φ t.castSucc from rfl,
    show (dat1 W d).owesAt none t.succ = (dat1 W d).owesAt none t.castSucc from rfl]
  iintro ⟨HΦ, Howes, ⟨%d0, %f0, %hf0, H0⟩, ⟨%d1, %f1, %hf1, H1⟩, ⟨%d2, %f2, -, H2⟩⟩
  rw [before1_0] at hf0
  rw [before1_1] at hf1
  iapply (tblRun d (grid1.coords t) (st1_0 t) (stage_whole1 0 _) (st1_1 t) (stage_whole1 1 _) (st1_2 t) (stage_whole1 2 _) f0 f1 f2 Set.univ _) $$ [-]
  isplitl [H0]; · iexact H0
  isplitl [H1]; · iexact H1
  isplitl [H2]; · iexact H2
  iintro %f %hf H0 H1 H2
  isplitl [HΦ]; · iexact HΦ
  isplitl [Howes]; · iexact Howes
  isplitl [H0]
  · iexists f0; isplitr; swap; (· iexact H0); ipureintro; dsimp only [dat1]; exact hf0
  isplitl [H1]
  · iexists f1; isplitr; swap; (· iexact H1); ipureintro; dsimp only [dat1]; exact hf1
  iexists f; isplitr; swap; (· iexact H2); ipureintro; dsimp only [dat1]; rw [hf, hf0, hf1]

/-! ## The array after the grid -/

theorem idx1_0 : ∀ t : Fin cfg1.N, win1_0.index t (0 : Fin 3) = t.val ∧ win1_0.index t (1 : Fin 3) = 0 ∧ win1_0.index t (2 : Fin 3) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 3) = t.val ∧ win1_2.index t (1 : Fin 3) = 0 ∧ win1_2.index t (2 : Fin 3) = 0 :=
  (by decide +kernel : ∀ t : Fin grid1.N, _)

/-- The staged block is image `t`. -/
theorem q1_eq (t : Fin cfg1.N) : q1 W t = image1 ⟨t.val, t.isLt⟩ (W (Proc.devRef .tc main_v0)) := by
  obtain ⟨e0, e1, e2⟩ := idx1_0 t
  funext j
  show W (Proc.devRef .tc main_v0) (((cfg1.win 0).blk t).view.emb j) = W (Proc.devRef .tc main_v0) _
  congr 1
  have hj : (j 0).val < 1 := (j 0).isLt
  funext a; apply Fin.ext
  match a with
  | ⟨0, _⟩ => show win1_0.index t (0 : Fin 3) * 1 + 1 * (j 0).val = t.val; omega
  | ⟨1, _⟩ => show win1_0.index t (1 : Fin 3) * 512 + 1 * (j 1).val = (j 1).val; omega
  | ⟨2, _⟩ => show win1_0.index t (2 : Fin 3) * 512 + 1 * (j 2).val = (j 2).val; omega

/-- The staged matrix is the whole matrix. -/
theorem m1_eq (t : Fin cfg1.N) : m1 W t = W (Proc.devRef .tc main_cst_0) := by
  obtain ⟨e0, e1⟩ := idx1_1 t
  funext j
  show W (Proc.devRef .tc main_cst_0) (((cfg1.win 1).blk t).view.emb j) = W (Proc.devRef .tc main_cst_0) _
  congr 1
  funext a; apply Fin.ext
  match a with
  | ⟨0, _⟩ => show win1_1.index t (0 : Fin 2) * 512 + 1 * (j 0).val = (j 0).val; omega
  | ⟨1, _⟩ => show win1_1.index t (1 : Fin 2) * 32 + 1 * (j 1).val = (j 1).val; omega

theorem emb1_2 (t : Fin cfg1.N) (j : S1x520x32.Idx) :
    ((((cfg1.win 2).blk t).view.emb j : S16x520x32.Idx) 0).val = t.val ∧ ((((cfg1.win 2).blk t).view.emb j : S16x520x32.Idx) 1).val = (j 1).val
      ∧ ((((cfg1.win 2).blk t).view.emb j : S16x520x32.Idx) 2).val = (j 2).val := by
  obtain ⟨e0, e1, e2⟩ := idx1_2 t
  have hj : (j 0).val < 1 := (j 0).isLt
  refine ⟨?_, ?_, ?_⟩
  · show win1_2.index t (0 : Fin 3) * 1 + 1 * (j 0).val = t.val; omega
  · show win1_2.index t (1 : Fin 3) * 520 + 1 * (j 1).val = (j 1).val; omega
  · show win1_2.index t (2 : Fin 3) * 32 + 1 * (j 2).val = (j 2).val; omega

/-- What a point writes back is its block of `G1`. -/
theorem flushed1 (d : Dev nD) (t : Fin cfg1.N) :
    (dat1 W d).flushed 2 t = ((cfg1.win 2).blk t).view.read (Elt F) (G1 (W (Proc.devRef .tc main_v0)) (W (Proc.devRef .tc main_cst_0))) := by
  funext j
  obtain ⟨e0, e1, e2⟩ := emb1_2 t j
  have hj : ((j : S1x520x32.Idx) 0).val < 1 := (j 0).isLt
  show k1_pay1 (q1 W t) (m1 W t) j = G1 (W (Proc.devRef .tc main_v0)) (W (Proc.devRef .tc main_cst_0)) (((cfg1.win 2).blk t).view.emb j)
  rw [q1_eq, m1_eq]
  have hi : tblIx (((cfg1.win 2).blk t).view.emb j) = j := by
    funext a; apply Fin.ext
    match a with
    | ⟨0, _⟩ => show 0 = (j 0).val; omega
    | ⟨1, _⟩ => exact e1
    | ⟨2, _⟩ => exact e2
  have hb : (⟨t.val, t.isLt⟩ : Fin 16) = ⟨((((cfg1.win 2).blk t).view.emb j : S16x520x32.Idx) 0).val, (((cfg1.win 2).blk t).view.emb j 0).isLt⟩ := Fin.ext e0.symm
  rw [hb]
  exact (congrArg (k1_pay1 _ _) hi).symm

/-- Every entry of the result is in some point's block. -/
theorem covered1 (i : S16x520x32.Idx) : ∃ t : Fin cfg1.N, (cfg1.win 2).flush t = true ∧ i ∈ ((cfg1.win 2).blk t).view.set := by
  refine ⟨⟨(i 0).val, (i 0).isLt⟩, flush1_2 _, ?_⟩
  have h := ((cfg1.win 2).blk ⟨(i 0).val, (i 0).isLt⟩).view.emb_mem_set (tblIx i)
  obtain ⟨e0, e1, e2⟩ := emb1_2 ⟨(i 0).val, (i 0).isLt⟩ (tblIx i)
  have e : ((cfg1.win 2).blk ⟨(i 0).val, (i 0).isLt⟩).view.emb (tblIx i) = i := by
    funext a; apply Fin.ext
    match a with
    | ⟨0, _⟩ => exact e0
    | ⟨1, _⟩ => exact e1
    | ⟨2, _⟩ => exact e2
  rwa [e] at h

/-- The tables after the call. -/
theorem final1 (d : Dev nD) : (dat1 W d).arrAt 2 cfg1.N = G1 (W (Proc.devRef .tc main_v0)) (W (Proc.devRef .tc main_cst_0)) :=
  (dat1 W d).arrAt_eq_of_cover 2 _ (fun t _ => flushed1 W d t) covered1

end Cert.Proof.Kern

end
-- ==== Proof.Region.lean ====
/-
  The two TensorCore calls inside @main: each runs from every array of the TensorCore at a valuation, with the core owing the
  SparseCores their start, to the same with the call's result at its value (`regionStep`).
-/
module

public import proofs.«01_k».proof.Proof.Body1
public import Idealize.ShloMosaic.Lib.Pipeline.RegionArrays

@[expose] public section

noncomputable section

namespace Cert.Proof.Kern

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.Pipeline (Dat Cfg Window BodyObligation BodyObligationLoose)

variable {F : FTy → Type} [FloatOps F]

/-- No table is prefetched: the only contents. -/
abbrev adm : (p : Fin 2) → (pcfgs (F := F) p).Adm := fun p => (cfgs p).toPCfg_adm

/-- Both calls' proof data, from one valuation. -/
def pdats (W : Valuation τ sig (Elt F)) : (p : Fin 2) → (c : Dev nD) → Dat τ (Elt F) (HIx 1) ℕ UU ℕ (Pipeline.pin (pcfgs (F := F)) adm p) c
  | ⟨0, _⟩ => fun c => dat0 W c
  | ⟨1, _⟩ => fun c => dat1 W c

/-- The two calls' layouts. -/
theorem kit (p : Fin 2) : Pipeline.PLaunchFacts (nD := nD) (τ := τ) (pcfgs (F := F)) p :=
  match p with
  | ⟨0, _⟩ => launch0.toP
  | ⟨1, _⟩ => launch1.toP

variable (W : Valuation τ sig (Elt F))

theorem pdats_owed (p : Fin 2) (c : Dev nD) (t) : (pdats W p c).owed t = (K (F := F)).Otc c 0 :=
  match p with | ⟨0, _⟩ => rfl | ⟨1, _⟩ => rfl
theorem pdats_recorded (p : Fin 2) (c : Dev nD) (t) : (pdats W p c).recorded t = lowPairs (F := F) c :=
  match p with | ⟨0, _⟩ => rfl | ⟨1, _⟩ => rfl
theorem inv0 (c : Dev nD) : (dat0 W c).Φ = fun _ => Pipeline.scopedRest (Ix := HIx 1) (Name := ℕ) (U := UU) (Lvl := ℕ) (Val := Elt F) (cfgs 0).spec c := rfl
theorem inv1 (c : Dev nD) : (dat1 W c).Φ = fun _ => Pipeline.scopedRest (Ix := HIx 1) (Name := ℕ) (U := UU) (Lvl := ℕ) (Val := Elt F) (cfgs 1).spec c := rfl
theorem pdats_inv (p : Fin 2) (c : Dev nD) : (pdats W p c).Φ
    = fun _ => Pipeline.scopedRest (Ix := HIx 1) (Name := ℕ) (U := UU) (Lvl := ℕ) (Val := Elt F) (cfgs p).spec c := by
  match p with
  | ⟨0, _⟩ => exact inv0 W c
  | ⟨1, _⟩ => exact inv1 W c
theorem pdats_share (p : Fin 2) (c : Dev nD) (w) : (pdats W p c).share w = fullShare :=
  match p with
  | ⟨0, _⟩ => (dat0 W c).share_full (fun _ => rfl) w
  | ⟨1, _⟩ => (dat1 W c).share_full (fun _ => rfl) w
theorem pdats_start (p : Fin 2) (c : Dev nD) (w) :
    (pdats W p c).arrAt w 0 = W (Proc.devRef .tc (Pipeline.arrRef (Pipeline.pin (pcfgs (F := F)) adm p).spec w)) :=
  match p with | ⟨0, _⟩ => rfl | ⟨1, _⟩ => rfl
theorem pdats_body (p : Fin 2) (c : Dev nD) : BodyObligationLoose (pdats W p c) defs₀ 𝒱₀ none Set.univ :=
  match p with | ⟨0, _⟩ => (obligation0 W c).loose | ⟨1, _⟩ => (obligation1 W c).loose

/-- The core owes the SparseCores nothing at the index of a kernel's own waits. -/
theorem owes_none (d : Dev nD) (g : GSem nD τ sig) : (K (F := F)).Otc d 0 g none = 0 := by
  by_contra h
  have := SparseCore.Cfg.lev_of_Otc_pos (K := K (F := F)) (Nat.pos_of_ne_zero h)
  rw [SparseCore.Cfg.lev_none] at this
  omega

set_option backward.isDefEq.respectTransparency.types false in
/-- Call `p` as a region: entered from its arrays at `W`, left with them at `W'`, `R` carried along. -/
def seg (p : Fin 2) (W' : Valuation τ sig (Elt F)) (R : Dev nD → sProp (MM F))
    (hW' : ∀ c w, (pdats W p c).arrAt w (Pipeline.pin (pcfgs (F := F)) adm p).N
      = W' (Proc.devRef .tc (Pipeline.arrRef (Pipeline.pin (pcfgs (F := F)) adm p).spec w))) :
    Pipeline.RegionSeg (pcfgs (F := F)) adm (pdats W) none defs₀ 𝒱₀ (K (F := F)).L (K (F := F)).lev p where
  win := (kit (F := F) p).win.to₀
  block_pos := (kit (F := F) p).block_pos
  stage_whole := (kit (F := F) p).stage_whole
  K := PEmpty
  osem k := k.elim
  ho := Pipeline.OwnSemFacts.none _
  hbody c := pdats_body W p c
  hwaits c := Pipeline.cellsWaits_intro _ _ _ _ _ fun w s t => by
    rw [pdats_owed]; exact (K (F := F)).mayWait_none _ (owes_none c)
  pre c := iprop(StableHlo.held (c.tc : Thread nD τ) (Pipeline.arrRefs (pcfgs (F := F) p).spec) W ∗ R c
    ∗ ∃ Wd, ⌜(K (F := F)).WBelow (T c) Wd 0⌝ ∗ owes (T c) ((K (F := F)).Otc c 0) Wd)
  post c := iprop(StableHlo.held (c.tc : Thread nD τ) (Pipeline.arrRefs (pcfgs (F := F) p).spec) W' ∗ R c
    ∗ ∃ Wd, ⌜(K (F := F)).WBelow (T c) Wd 0⌝ ∗ owes (T c) ((K (F := F)).Otc c 0) Wd)
  X _ := BI.emp
  Y _ := BI.emp
  Z := R
  hentry c := by
    rw [Pipeline.ownSems0_none, Pipeline.prefHeld_of_none _ rfl,
      ← Pipeline.arrays_held (pcfgs (F := F)) adm (pdats W) p (kit p) c (pdats_share W p c) ((pdats W p c).arrAt · 0) W (pdats_start W p c)]
    iintro ⟨⟨Ha, HR, HO⟩, -, -⟩
    imodintro
    isplitl [Ha]; · iexact Ha
    isplitr; · iempintro
    isplitl [HO]
    · unfold Dat.owesAt Pipeline.owesWithin Dat.bound
      rw [pdats_owed, pdats_recorded]
      icases HO with ⟨%Wd, %hWd, HO⟩; iexists Wd; isplitr; · ipureintro; exact fun q hq => Or.inl (hWd q hq)
      iexact HO
    isplitr; · iempintro
    iexact HR
  hin c := by
    rw [pdats_inv]
    iintro ⟨-, -, Hr⟩; iexact Hr
  hout c := by
    rw [pdats_inv, Pipeline.ownSems0_none]
    iintro Hr
    isplitr; · iempintro
    isplitr; · iempintro
    iexact Hr
  hexit c := by
    rw [← Pipeline.arrays_held (pcfgs (F := F)) adm (pdats W) p (kit p) c (pdats_share W p c)
      ((pdats W p c).arrAt · (Pipeline.pin (pcfgs (F := F)) adm p).N) W' (hW' c)]
    iintro ⟨Ha, HO, -, HR⟩
    imodintro
    isplitl [Ha]; · iexact Ha
    isplitl [HR]; · iexact HR
    unfold Dat.owesAt Pipeline.owesWithin Dat.bound
    rw [pdats_owed, pdats_recorded]
    icases HO with ⟨%Wd, %hWd, HO⟩; iexists Wd; isplitr
    · ipureintro
      intro q hq
      rcases hWd hq with h | ⟨w, s, h⟩
      · exact h
      · rw [h]; exact Nat.le_refl 0
    iexact HO

/-- Every array of the TensorCore. -/
abbrev URefs : Finset (DevRef τ sig) := Pipeline.ucRefs τ sig

set_option backward.isDefEq.respectTransparency.types false in
/-- Call `p` in @main: every array at `W` before, at `W'` after, where `W'` has the call's arrays at what the call leaves and
    agrees with `W` elsewhere; the core's state of the SparseCore call that follows kept. -/
theorem regionStep [∀ e, Nonempty (Elt F e)] (p : Fin 2) (W' : Valuation τ sig (Elt F)) (d : Dev nD)
    (hW' : ∀ c w, (pdats W p c).arrAt w (Pipeline.pin (pcfgs (F := F)) adm p).N
      = W' (Proc.devRef .tc (Pipeline.arrRef (Pipeline.pin (pcfgs (F := F)) adm p).spec w)))
    (hoff : ∀ b ∉ Pipeline.arrRefs (τ := τ) (pcfgs (F := F) p).spec, W b = W' b) (Q : PUnit → sProp (MM F)) :
    iprop(levAts (K (F := F)).L (K (F := F)).lev ∗ boundary (T d) ∗ StableHlo.held (T d) URefs W ∗ (K (F := F)).tcSt EH d 0
        ∗ Pipeline.cellsGhost (Pipeline.pin (pcfgs (F := F)) adm) EP p d ∗ Pipeline.toksInit (Pipeline.pin (pcfgs (F := F)) adm) EP p d
        ∗ (iprop(boundary (T d) ∗ StableHlo.held (T d) URefs W' ∗ (K (F := F)).tcSt EH d 0) -∗ Q ⟨⟩))
      ⊢ wp frame (wpE ((K (F := F)).defs (D (F := F))) 𝒱 (T d) none) Set.univ
          (Prog.lift (.customCall (SparseCore.inner (Pipeline.entry p)) ())) Q := by
  refine BIBase.Entails.trans ?_ ((K (F := F)).wp_liftProg (D (F := F)) 𝒱 (T d) Set.univ none (Prog.lift (.customCall (Pipeline.entry p) ())) Q)
  have hsub : Pipeline.arrRefs (τ := τ) (pcfgs (F := F) p).spec ⊆ URefs :=
    Pipeline.arrRefs_sub_ucRefs _ fun w => (kit (F := F) p).win.arr_unscoped w
  rw [StableHlo.held_sub_split (T d) hsub W, StableHlo.held_sub_split (T d) hsub W',
    ← StableHlo.held_congr (T d) (S := URefs \ Pipeline.arrRefs (τ := τ) (pcfgs (F := F) p).spec) (V := W) (V' := W')
      fun b hb => hoff b (Finset.mem_sdiff.mp hb).2]
  have hrun := (seg W p W' (fun c => iprop(StableHlo.held (T c) (URefs \ Pipeline.arrRefs (τ := τ) (pcfgs (F := F) p).spec) W
      ∗ (atPos EH ((K (F := F)).doneCell c) 0 ∅ 0 ∗ reached EH ((K (F := F)).doneCell c) 0
    ∗ (bigSep Finset.univ fun i : Fin τ.nSC => reached EH ((K (F := F)).startCell c i) ((K (F := F)).sRank i 0))
    ∗ bigSep (SparseCore.Cfg.callsFrom 0) fun q => bigSep Finset.univ fun i : Fin ((K (F := F)).nCore q) =>
        iprop(dutyTok EH ((K (F := F)).startCell c ((K (F := F)).core q i)) ((K (F := F)).sRank ((K (F := F)).core q i) q.val) 0
          ∗ cred (tallyAt ((K (F := F)).doneCell c) (some (SparseCore.Cfg.Blocks.last q)) 1))))) hW').wp
    (pcfgs (F := F)) adm (pdats W) none cellOf_inj EP defs₀ 𝒱₀ _ _ d none (fun _ h => nomatch h) (fun x => .ret x) Q
  dsimp only [seg] at hrun
  unfold SparseCore.Cfg.tcSt
  iintro ⟨#Hlv, Hb, ⟨Ha, Hrest⟩, ⟨HO, Hst⟩, Hg, Ht, Hk⟩
  iapply hrun
  isplitl [Hk]
  · iintro ⟨Hb, Ha, ⟨Hrest, Hst⟩, HO⟩
    rw [wp_ret]; imodintro
    iapply Hk
    isplitl [Hb]; · iexact Hb
    isplitl [Ha Hrest]
    · isplitl [Ha]; · iexact Ha
      iexact Hrest
    isplitl [HO]; · iexact HO
    iexact Hst
  isplitl [Hb]; · iexact Hb
  isplitl [Ha Hrest HO Hst]
  · isplitl [Ha]; · iexact Ha
    isplitl [Hrest Hst]
    · isplitl [Hrest]; · iexact Hrest
      iexact Hst
    iexact HO
  isplitr; · iexact Hlv
  isplitl [Hg]; · iexact Hg
  iexact Ht

end Cert.Proof.Kern

end
-- ==== Proof.Trip.lean ====
/-
  One trip of the tile's loop: five groups of sixteen indices, each read, its words gathered from the table row, the bits
  selected and stored.
-/
module

public import proofs.«01_k».proof.Proof.Base

@[expose] public section

noncomputable section

namespace Cert.Proof.Kern

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v4_scv : Memref Cert.KernelIdeal.sig Kind.scVector Space.hbm Cert.KernelIdeal.S16x16640 EltTy.i32)
local notation "iV" => (Memref.whole Cert.KernelIdeal.main_v5_scv : Memref Cert.KernelIdeal.sig Kind.scVector Space.hbm Cert.KernelIdeal.S1600000 EltTy.i32)
local notation "oV" => (Memref.whole Cert.KernelIdeal.main_v6_scv : Memref Cert.KernelIdeal.sig Kind.scVector Space.hbm Cert.KernelIdeal.S1600000 EltTy.i32)
local notation "sT" => (Memref.whole Cert.KernelIdeal.cc2_scratch0 : Memref Cert.KernelIdeal.sig Kind.scVector Space.vmem Cert.KernelIdeal.S16640 EltTy.i32)
local notation "sI" => (Memref.whole Cert.KernelIdeal.cc2_scratch1 : Memref Cert.KernelIdeal.sig Kind.scVector Space.vmem Cert.KernelIdeal.S50000 EltTy.i32)
local notation "sO" => (Memref.whole Cert.KernelIdeal.cc2_scratch2 : Memref Cert.KernelIdeal.sig Kind.scVector Space.vmem Cert.KernelIdeal.S50000 EltTy.i32)

variable [FloatOps F]

abbrev cV (L : grid2.Coords) : Fin τ.nSC := (L 0).castLE hcore2
abbrev jV (L : grid2.Coords) : Fin τ.nSub := (L 1).castLE hsub2

/-- The word number of table row position `n`. -/
def wIx (n : ℕ) (h : n < 16640) : S16640.Idx := fun
  | 0 => (⟨n, h⟩ : Fin 16640)

/-- What the loop leaves at element `j` of the out scratch, from the table row `fT` and the chunk `fI` of indices. -/
def tileV (fT : S16640.Idx → BitVec 32) (fI : S50000.Idx → BitVec 32) (hI : ∀ j, (fI j >>> 4).toNat < 16640) : S50000.Idx → BitVec 32 :=
  fun j => bitOf (fT (wIx (fI j >>> 4).toNat (hI j))) (fI j)

/-! ## A group of sixteen lanes -/

/-- The word numbers of sixteen indices, lane by lane. -/
theorem pay_shr (v : IVec S16 32) (x : S16.Idx) : k2_pay1 (F := F) v x = v x >>> 4 := by
  show IntOp.shrui .vector (v x) 4#32 = _
  rfl

/-- The bits selected, lane by lane. -/
theorem pay_bit (v w : IVec S16 32) (x : S16.Idx) : k2_pay2 (F := F) v w x = bitOf (w x) (v x) := by
  have h : (v x &&& 15#32).toNat < 32 := by
    rw [BitVec.toNat_and]; exact lt_of_le_of_lt Nat.and_le_right (by decide)
  show IntOp.andi (IntOp.shrui .vector (w x) (v x &&& 15#32)) 1#32 = _
  simp only [IntOp.shrui, h, if_true, bitOf]
  rfl

section Grp

variable (d : Dev nD) (L : grid2.Coords)

/-- One group of the loop's body: sixteen indices read at `ol`, their words gathered, the out scratch read and written at `os`. -/
def grp (ol os : Fin 1 → ℕ) (hl : ∀ a, ol a + S16.size a ≤ S50000.size a) (hs : ∀ a, os a + S16.size a ≤ S50000.size a)
    {α : Type} (k : Prog (TpuEff nD τ sig (Elt F) Λ₀ (.scVector (cV L) (jV L))) α) :
    Prog (TpuEff nD τ sig (Elt F) Λ₀ (.scVector (cV L) (jV L))) α :=
  .op (.load sI (Rect.unit (s := S50000) ol S16.size hl).toLoadRect (View.loadsAt_vmem h_S16)) fun (v : Vec F S16 .i32) =>
  .op (.assume (k2_chk1 (k2_pay1 v)) (k2_chk1.dec (k2_pay1 v))) fun hw =>
  SparseCore.vectorLoadIdx sT ![k2_pay1 v] (k2_idx1_inb (k2_pay1 v) hw.down) (View.loads_vmem h_S16640) >>= fun w =>
  .op (.load sO (Rect.unit (s := S50000) os S16.size hs).toLoadRect (View.loadsAt_vmem h_S16)) fun _ =>
  .op (.store sO (Rect.unit (s := S50000) os S16.size hs) (k2_pay2 v w) Finset.univ (View.stores_vmem_bits_univ h_S16 rfl) (.inl rfl)) fun _ => k

/-- The loop's invariant: the table row and the indices as copied, and the first `n` elements of the out scratch done. -/
def Inv (fT : S16640.Idx → BitVec 32) (fI : S50000.Idx → BitVec 32) (hI : ∀ j, (fI j >>> 4).toNat < 16640) (n : ℕ) : sProp 𝕄 :=
  iprop(((sT).view.loc (V d (cV L) (jV L)) ↦{fullShare} fT) ∗ ((sI).view.loc (V d (cV L) (jV L)) ↦{fullShare} fI)
    ∗ ∃ fO : S50000.Idx → BitVec 32, ⌜∀ j : S50000.Idx, (j 0).val < n → fO j = tileV fT fI hI j⌝
        ∗ ((sO).view.loc (V d (cV L) (jV L)) ↦{fullShare} fO))

theorem grp_val (fT : S16640.Idx → BitVec 32) (fI : S50000.Idx → BitVec 32) (hI : ∀ j, (fI j >>> 4).toNat < 16640) (n : ℕ)
    (hl hs : ∀ a, (![n] : Fin 1 → ℕ) a + S16.size a ≤ S50000.size a)
    (hc : k2_chk1 (k2_pay1 (F := F) ((sI).view.readAt (Elt F) (Rect.unit (s := S50000) ![n] S16.size hl).toLoadRect fI)))
    (fO : S50000.Idx → BitVec 32) (hO : ∀ j : S50000.Idx, (j 0).val < n → fO j = tileV fT fI hI j)
    (j : S50000.Idx) (hj : (j 0).val < n + 16) :
    ((sO).access (Rect.unit (s := S50000) ![n] S16.size hs)).write (Elt F) fO
      (k2_pay2 (F := F) ((sI).view.readAt (Elt F) (Rect.unit (s := S50000) ![n] S16.size hl).toLoadRect fI)
        (loadIdx (((sT).access (Rect.whole S16640)).read (Elt F) fT)
          ![k2_pay1 (F := F) ((sI).view.readAt (Elt F) (Rect.unit (s := S50000) ![n] S16.size hl).toLoadRect fI)]
          (k2_idx1_inb _ hc))) Finset.univ j = tileV fT fI hI j := by
  by_cases hn : (j 0).val < n
  · rw [View.write_of_not_mem, hO j hn]
    intro hm
    obtain ⟨x, -, hx⟩ := Finset.mem_map.mp hm
    have : n + 1 * (x 0).val = (j 0).val := congrArg (fun y : S50000.Idx => (y 0).val) hx
    omega
  · let x : S16.Idx := fun
      | 0 => (⟨(j 0).val - n, by omega⟩ : Fin 16)
    have hx : (Rect.unit (s := S50000) ![n] S16.size hl).emb x = j := by
      funext a
      match a with
      | 0 =>
        refine Fin.ext ?_
        show n + 1 * ((j 0).val - n) = (j 0).val
        omega
    have hx' : ((sO).access (Rect.unit (s := S50000) ![n] S16.size hs)).emb x = j := hx
    conv_lhs => rw [← hx']
    rw [View.write_emb_of_mem _ _ (Finset.mem_univ x)]
    show k2_pay2 (F := F) _ _ x = _
    rw [pay_bit]
    have hvx : ((sI).view.readAt (Elt F) (Rect.unit (s := S50000) ![n] S16.size hl).toLoadRect fI : IVec S16 32) x = fI j :=
      congrArg fI hx
    rw [hvx]
    unfold tileV
    congr 1
    refine congrArg fT ?_
    funext a
    match a with
    | 0 =>
      refine Fin.ext ?_
      show 0 + 1 * (k2_pay1 (F := F) ((sI).view.readAt (Elt F) (Rect.unit (s := S50000) ![n] S16.size hl).toLoadRect fI) x).toNat = (fI j >>> 4).toNat
      rw [pay_shr, hvx]
      omega

/-- The group takes the invariant from `n` to `n + 16`. -/
theorem grp_wp (fT : S16640.Idx → BitVec 32) (fI : S50000.Idx → BitVec 32) (hI : ∀ j, (fI j >>> 4).toNat < 16640) (n : ℕ)
    {ol os : Fin 1 → ℕ} (eol : ol = ![n]) (eos : os = ![n]) (hl : ∀ a, ol a + S16.size a ≤ S50000.size a)
    (hs : ∀ a, os a + S16.size a ≤ S50000.size a) {α : Type} {k : Prog (TpuEff nD τ sig (Elt F) Λ₀ (.scVector (cV L) (jV L))) α}
    {Q : α → sProp 𝕄}
    (hk : Inv (F := F) d L fT fI hI (n + 16) ⊢ wp frame (wpE (defs₀ (F := F)) 𝒱₀ (V d (cV L) (jV L)) none) Set.univ k Q) :
    Inv (F := F) d L fT fI hI n
      ⊢ wp frame (wpE (defs₀ (F := F)) 𝒱₀ (V d (cV L) (jV L)) none) Set.univ (grp (F := F) L ol os hl hs k) Q := by
  subst eol eos
  have hv : ∀ x, ((sI).view.readAt (Elt F) (Rect.unit (s := S50000) ![n] S16.size hl).toLoadRect fI : IVec S16 32) x
      = fI ((Rect.unit (s := S50000) ![n] S16.size hl).emb x) := fun x => rfl
  have hc : k2_chk1 (k2_pay1 (F := F) ((sI).view.readAt (Elt F) (Rect.unit (s := S50000) ![n] S16.size hl).toLoadRect fI)) := by
    intro a x
    match a with
    | 0 =>
      show (k2_pay1 (F := F) _ x).toNat < 16640
      rw [pay_shr, hv]
      exact hI _
  unfold Inv grp
  iintro ⟨HT, HI, ⟨%fO, %hO, HO⟩⟩
  iapply (wp_load 𝒱₀ (V d (cV L) (jV L)) none Set.univ (m := sI) (S := Finset.univ) (Finset.subset_univ _)) $$ HI; iintro HI
  rw [wp_assume_of _ _ _ _ hc]
  ihave HT' := (Entails.of_eq (show ((sT).view.loc (V d (cV L) (jV L)) ↦{fullShare} fT : sProp 𝕄)
    = (((sT).access (.whole S16640)).loc (V d (cV L) (jV L)) ↦{fullShare} fT) from rfl)) $$ HT
  iapply (SparseCore.wp_vectorLoadIdx 𝒱₀ (V d (cV L) (jV L)) none Set.univ (base := sT) (S := Finset.univ) (q := fullShare) (Finset.subset_univ _)) $$ HT'; iintro HT'
  iapply (wp_load 𝒱₀ (V d (cV L) (jV L)) none Set.univ (m := sO) (S := Finset.univ) (Finset.subset_univ _)) $$ HO; iintro HO
  ihave HO' := (Entails.of_eq (show ((sO).view.loc (V d (cV L) (jV L)) ↦{fullShare} fO : sProp 𝕄)
    = (((sO).access (Rect.unit (s := S50000) ![n] S16.size hs)).loc (V d (cV L) (jV L)) ↦{fullShare} fO) from rfl)) $$ HO
  iapply (wp_store 𝒱₀ (V d (cV L) (jV L)) none Set.univ (m := sO) (r := Rect.unit (s := S50000) ![n] S16.size hs)
    (Mk := Finset.univ) (S := Finset.univ) (Finset.subset_univ _)) $$ HO'; iintro HO'
  iapply hk
  unfold Inv
  isplitl [HT']
  · iexact HT'
  isplitl [HI]
  · iexact HI
  iexists _
  isplitr
  rotate_left
  · iexact HO'
  · ipureintro
    exact fun j hj => grp_val fT fI hI n hl hs hc fO hO j hj

set_option maxHeartbeats 4000000 in
/-- The loop's body is five groups. -/
theorem body_eq (k : Fin k2_t1_loop.trips) :
    k2_t1_body (F := F) L tV (Memref.isWhole_whole _) iV (Memref.isWhole_whole _) oV (Memref.isWhole_whole _)
        sT (Memref.isWhole_whole _) sI (Memref.isWhole_whole _) sO (Memref.isWhole_whole _) cc2_scoped0 cc2_scoped1 cc2_scoped2 k ⟨⟩
      = (grp (F := F) L (k2_off3 k) (k2_off4 k 0#32) (k2_off3_inb k) (k2_off4_inb k 0) <|
          grp (F := F) L (k2_off4 k 1#32) (k2_off5 k 1#32) (k2_off4_inb k 1) (k2_off5_inb k 0) <|
          grp (F := F) L (k2_off5 k 2#32) (k2_off6 k 2#32) (k2_off5_inb k 1) (k2_off6_inb k 0) <|
          grp (F := F) L (k2_off6 k 3#32) (k2_off7 k 3#32) (k2_off6_inb k 1) (k2_off7_inb k 0) <|
          grp (F := F) L (k2_off7 k 4#32) (k2_off8 k) (k2_off7_inb k 1) (k2_off8_inb k) <| .ret ⟨⟩) := by
  unfold k2_t1_body
  rw [k2_part1_eq_skeleton]
  unfold k2_part1_skel
  rfl

/-- A trip of the loop takes the invariant from `80 k` to `80 (k + 1)`. -/
theorem trip (fT : S16640.Idx → BitVec 32) (fI : S50000.Idx → BitVec 32) (hI : ∀ j, (fI j >>> 4).toNat < 16640)
    (k : Fin k2_t1_loop.trips) :
    Inv (F := F) d L fT fI hI (80 * k.val)
      ⊢ wp frame (wpE (defs₀ (F := F)) 𝒱₀ (V d (cV L) (jV L)) none) Set.univ
          (k2_t1_body (F := F) L tV (Memref.isWhole_whole _) iV (Memref.isWhole_whole _) oV (Memref.isWhole_whole _)
            sT (Memref.isWhole_whole _) sI (Memref.isWhole_whole _) sO (Memref.isWhole_whole _) cc2_scoped0 cc2_scoped1 cc2_scoped2 k ⟨⟩)
          fun _ => Inv (F := F) d L fT fI hI (80 * (k.val + 1)) := by
  rw [body_eq]
  refine grp_wp d L fT fI hI (80 * k.val) (k2_off3_eq k) (k2_off4_eq k 0) _ _ ?_
  refine grp_wp d L fT fI hI (80 * k.val + 16) (k2_off4_eq k 1) (k2_off5_eq k 0) _ _ ?_
  refine grp_wp d L fT fI hI (80 * k.val + 16 + 16) (k2_off5_eq k 1) (k2_off6_eq k 0) _ _ ?_
  refine grp_wp d L fT fI hI (80 * k.val + 16 + 16 + 16) (k2_off6_eq k 1) (k2_off7_eq k 0) _ _ ?_
  refine grp_wp d L fT fI hI (80 * k.val + 16 + 16 + 16 + 16) (k2_off7_eq k 1) (k2_off8_eq k) _ _ ?_
  have e : 80 * k.val + 16 + 16 + 16 + 16 + 16 = 80 * (k.val + 1) := by omega
  rw [e]
  iintro H
  sl_step
  iexact H

end Grp

end Cert.Proof.Kern

end
-- ==== Proof.Tile.lean ====
/-
  One task of the SparseCore call: on subcore (c, s) the table's row `s` and a chunk of fifty thousand indices are copied
  in, the loop selects their bits, and the chunk of the result is copied out.
-/
module

public import proofs.«01_k».proof.Proof.Trip
public import Idealize.ShloMosaic.Lib.Pointwise.Reshape

@[expose] public section

noncomputable section

namespace Cert.Proof.Kern

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.KernelIdeal.main_v4_scv : Memref Cert.KernelIdeal.sig Kind.scVector Space.hbm Cert.KernelIdeal.S16x16640 EltTy.i32)
local notation "iV" => (Memref.whole Cert.KernelIdeal.main_v5_scv : Memref Cert.KernelIdeal.sig Kind.scVector Space.hbm Cert.KernelIdeal.S1600000 EltTy.i32)
local notation "oV" => (Memref.whole Cert.KernelIdeal.main_v6_scv : Memref Cert.KernelIdeal.sig Kind.scVector Space.hbm Cert.KernelIdeal.S1600000 EltTy.i32)
local notation "sT" => (Memref.whole Cert.KernelIdeal.cc2_scratch0 : Memref Cert.KernelIdeal.sig Kind.scVector Space.vmem Cert.KernelIdeal.S16640 EltTy.i32)
local notation "sI" => (Memref.whole Cert.KernelIdeal.cc2_scratch1 : Memref Cert.KernelIdeal.sig Kind.scVector Space.vmem Cert.KernelIdeal.S50000 EltTy.i32)
local notation "sO" => (Memref.whole Cert.KernelIdeal.cc2_scratch2 : Memref Cert.KernelIdeal.sig Kind.scVector Space.vmem Cert.KernelIdeal.S50000 EltTy.i32)

/-! ## The rows and the chunks -/

theorem hdivT : 16 ∣ S16x16640.size 0 := ⟨1, rfl⟩
theorem hdivI : 32 ∣ S1600000.size 0 := ⟨50000, rfl⟩
/-- Row `s` of the table. -/
abbrev tSet (s : Fin 16) : Finset S16x16640.Idx := (Rect.part (s := S16x16640) (a₀ := 0) hdivT s).set
/-- The `n`-th chunk of fifty thousand positions. -/
abbrev cSet (n : Fin 32) : Finset S1600000.Idx := (Rect.part (s := S1600000) (a₀ := 0) hdivI n).set
/-- The chunk of subcore `s` of core `c`. -/
def wid (c : Fin 2) (s : Fin 16) : Fin 32 := ⟨2 * s.val + c.val, by omega⟩
/-- The share of the table that core `c` reads it at: one half. -/
def half (c : Fin 2) : PosShare TreeShare := if c.val = 0 then fullShare.left else fullShare.right

section Tile

variable (d : Dev nD) (L : grid2.Coords)

theorem bound_zero : grid2.bound 0 = 2 := rfl
theorem bound_one : grid2.bound 1 = 16 := rfl
abbrev cL (L : grid2.Coords) : Fin 2 := Fin.cast bound_zero (L 0)
abbrev jL (L : grid2.Coords) : Fin 16 := Fin.cast bound_one (L 1)

theorem k2_off1_eq : ∀ L : grid2.Coords, k2_off1 L = ![(L 1).val, 0] := by decide +kernel

abbrev tRowK (L : grid2.Coords) : Memref sig .scVector .hbm S16640 .i32 :=
  ((tV).slice (Rect.unit (s := S16x16640) (k2_off1 L) S1x16640.size (k2_off1_inb L)) (fun _ => rfl)).squeeze S16640 squeezes_S1x16640_S16640
abbrev iRowK (L : grid2.Coords) : Memref sig .scVector .hbm S50000 .i32 :=
  (iV).slice (Rect.unit (s := S1600000) (k2_off2 L) S50000.size (k2_off2_inb L)) (fun _ => rfl)
abbrev oRowK (L : grid2.Coords) : Memref sig .scVector .hbm S50000 .i32 :=
  (oV).slice (Rect.unit (s := S1600000) (k2_off2 L) S50000.size (k2_off2_inb L)) (fun _ => rfl)

theorem rectT_eq : Rect.unit (s := S16x16640) (k2_off1 L) S1x16640.size (k2_off1_inb L) = Rect.part (s := S16x16640) (a₀ := 0) hdivT (jL L) := by
  unfold Rect.part Rect.block
  congr 1 <;> funext a
  · rw [k2_off1_eq]
    match a with
    | 0 => simp [Shape.partIx, Shape.partSize]
    | 1 => simp [Shape.partIx, Shape.partSize]
  · match a with
    | 0 => simp [Shape.partSize]
    | 1 => simp [Shape.partSize]
theorem rectI_eq : Rect.unit (s := S1600000) (k2_off2 L) S50000.size (k2_off2_inb L)
    = Rect.part (s := S1600000) (a₀ := 0) hdivI (wid (cL L) (jL L)) := by
  unfold Rect.part Rect.block
  congr 1 <;> funext a
  · rw [k2_off2_eq]
    match a with
    | 0 => simp [Shape.partIx, Shape.partSize, wid]; omega
  · match a with
    | 0 => simp [Shape.partSize]

theorem set_tRowK : (tRowK L).view.set = tSet (jL L) := by
  show (((tV).view.slice (Rect.unit (s := S16x16640) (k2_off1 L) S1x16640.size (k2_off1_inb L))).reshape S16640 squeezes_S1x16640_S16640.numel_eq).set = _
  rw [View.set_reshape, View.set_slice]
  exact Finset.map_refl.trans (rectT_eq L ▸ rfl)
theorem set_iRowK : (iRowK L).view.set = cSet (wid (cL L) (jL L)) := by
  show ((iV).view.slice (Rect.unit (s := S1600000) (k2_off2 L) S50000.size (k2_off2_inb L))).set = _
  rw [View.set_slice]
  exact Finset.map_refl.trans (rectI_eq L ▸ rfl)
theorem set_oRowK : (oRowK L).view.set = cSet (wid (cL L) (jL L)) := by
  show ((oV).view.slice (Rect.unit (s := S1600000) (k2_off2 L) S50000.size (k2_off2_inb L))).set = _
  rw [View.set_slice]
  exact Finset.map_refl.trans (rectI_eq L ▸ rfl)

theorem pts_tRowK (q : PosShare TreeShare) (f : Buf (Elt F) (tLoc d)) :
    ((tRowK L).view.loc (V d (cV L) (jV L)) ↦[(tRowK L).view.set]{q} f : sProp 𝕄) = tLoc d ↦[tSet (jL L)]{q} f := by
  rw [set_tRowK]
theorem pts_iRowK (f : Buf (Elt F) (iLoc d)) :
    ((iRowK L).view.loc (V d (cV L) (jV L)) ↦[(iRowK L).view.set]{fullShare} f : sProp 𝕄) = iLoc d ↦[cSet (wid (cL L) (jL L))]{fullShare} f := by
  rw [set_iRowK]
theorem pts_oRowK (f : Buf (Elt F) (oLoc d)) :
    ((oRowK L).view.loc (V d (cV L) (jV L)) ↦[(oRowK L).view.set]{fullShare} f : sProp 𝕄) = oLoc d ↦[cSet (wid (cL L) (jL L))]{fullShare} f := by
  rw [set_oRowK]

/-! ## The subcore's semaphores and scratches -/

abbrev cell0 (d : Dev nD) (c : Fin τ.nSC) (i : Fin τ.nSub) : GSem nD τ sig := (V d c i, .dma cc2_scoped0.sem)
abbrev cell1 (d : Dev nD) (c : Fin τ.nSC) (i : Fin τ.nSub) : GSem nD τ sig := (V d c i, .dma cc2_scoped1.sem)
abbrev cell2 (d : Dev nD) (c : Fin τ.nSC) (i : Fin τ.nSub) : GSem nD τ sig := (V d c i, .dma cc2_scoped2.sem)

/-- The subcore's semaphores are the three transfers' and the rest. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0
          ∗ bigSep ((((ownCells (V d (cV L) (jV L))).erase (cell0 d (cV L) (jV L))).erase (cell1 d (cV L) (jV L))).erase (cell2 d (cV L) (jV L)))
              fun g => semVal g 0) := by
  unfold SparseCore.Cfg.ownSems0
  rw [SparseCore.bigSep_erase' ((mem_ownCells (g := cell0 d (cV L) (jV L))).mpr ⟨rfl, by
      show (SemLoc.dma cc2_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc2_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc2_scoped2.sem : SemLoc sig).isScoped .scVector = true; decide⟩⟩⟩)]

/-- The subcore's buffers are the three scratches, each at some contents, and the rest. -/
theorem ownBufs_V :
    (ownBufs (V d (cV L) (jV L)) : sProp 𝕄)
      = iprop((∃ f, (V d (cV L) (jV L)).loc cc2_scratch0 ↦{fullShare} f) ∗ (∃ f, (V d (cV L) (jV L)).loc cc2_scratch1 ↦{fullShare} f)
          ∗ (∃ f, (V d (cV L) (jV L)).loc cc2_scratch2 ↦{fullShare} f)
          ∗ bigSep ((((ownRefs (τ := τ) (.scVector (cV L) (jV L))).erase ((Proc.scVector (cV L) (jV L)).devRef cc2_scratch0)).erase
              ((Proc.scVector (cV L) (jV L)).devRef cc2_scratch1)).erase ((Proc.scVector (cV L) (jV L)).devRef cc2_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
      SparseCore.Cfg.mem_ownRefs_of_owner (p := Proc.scVector (cV L) (jV L)) (b := (Proc.scVector (cV L) (jV L)).devRef cc2_scratch2) rfl⟩⟩)]

variable [FloatOps F]

theorem pts_sT (f : Buf (Elt F) ((V d (cV L) (jV L)).loc cc2_scratch0)) :
    ((sT).view.loc (V d (cV L) (jV L)) ↦{fullShare} f : sProp 𝕄) = (V d (cV L) (jV L)).loc cc2_scratch0 ↦{fullShare} f := rfl
theorem pts_sI (f : Buf (Elt F) ((V d (cV L) (jV L)).loc cc2_scratch1)) :
    ((sI).view.loc (V d (cV L) (jV L)) ↦{fullShare} f : sProp 𝕄) = (V d (cV L) (jV L)).loc cc2_scratch1 ↦{fullShare} f := rfl
theorem pts_sO (f : Buf (Elt F) ((V d (cV L) (jV L)).loc cc2_scratch2)) :
    ((sO).view.loc (V d (cV L) (jV L)) ↦{fullShare} f : sProp 𝕄) = (V d (cV L) (jV L)).loc cc2_scratch2 ↦{fullShare} f := rfl

/-- What the copies leave in the two scratches: table row `jL L`, and the chunk of the indices. -/
def rowT (Tb : S16x16640.Idx → BitVec 32) : S16640.Idx → BitVec 32 := (tRowK L).view.read (Elt F) Tb
def rowI (Ix : S1600000.Idx → BitVec 32) : S50000.Idx → BitVec 32 := (iRowK L).view.read (Elt F) Ix

theorem rowI_range (Ix : S1600000.Idx → BitVec 32) (hIx : ∀ j, (Ix j >>> 4).toNat < 16640) :
    ∀ j, (rowI (F := F) L Ix j >>> 4).toNat < 16640 := fun j => hIx ((iRowK L).view.emb j)

/-- Position `n` of the row as copied is position `n` of the table's row. -/
theorem rowT_apply (Tb : S16x16640.Idx → BitVec 32) (n : ℕ) (hn : n < 16640) :
    rowT (F := F) L Tb (wIx n hn) = Tb (tIx (jL L) n) := by
  have hj : (L 1).val = (jL L).val := rfl
  show Tb ((Rect.unit (s := S16x16640) (k2_off1 L) S1x16640.size (k2_off1_inb L)).emb (Shape.reshapeEquiv squeezes_S1x16640_S16640.numel_eq (wIx n hn))) = _
  congr 1
  have e : Shape.reshapeEquiv (s := S1x16640) squeezes_S1x16640_S16640.numel_eq (wIx n hn)
      = (fun | 0 => (⟨0, by decide⟩ : Fin 1) | 1 => (⟨n, hn⟩ : Fin 16640) : S1x16640.Idx) := by
    refine Shape.reshapeEquiv_eq_of_vals _ _ _ n n ?_ ?_ rfl
    · rw [rowMajor_val2 _ 16640 rfl]; simp
    · rw [rowMajor_val1]; rfl
  rw [e]
  funext a
  apply Fin.ext
  match a with
  | 0 => simp [Rect.emb, Rect.unit, k2_off1_eq, tIx]
  | 1 => simp [Rect.emb, Rect.unit, k2_off1_eq, tIx, Nat.mod_eq_of_lt hn]

theorem out_pos (y : S50000.Idx) : ((oRowK L).view.emb y 0).val = 100000 * (L 1).val + 50000 * (L 0).val + (y 0).val := by
  show (((Rect.unit (s := S1600000) (k2_off2 L) S50000.size (k2_off2_inb L)).emb y) 0).val = _
  simp [Rect.emb, Rect.unit, k2_off2_eq]

/-- Copying the done scratch out leaves the call's value on the chunk. -/
theorem out_val (Tb : S16x16640.Idx → BitVec 32) (Ix Oi : S1600000.Idx → BitVec 32) (hIx : ∀ j, (Ix j >>> 4).toNat < 16640)
    (f : S50000.Idx → BitVec 32)
    (hf : ∀ j, f j = tileV (rowT (F := F) L Tb) (rowI (F := F) L Ix) (rowI_range L Ix hIx) j)
    (j : S1600000.Idx) (hj : j ∈ (oRowK L).view.set) :
    (oRowK L).view.writes (Elt F) Oi [⟨Rect.whole S50000, f⟩] j = outV Tb Ix j := by
  have hj' : ∃ y, (oRowK L).view.emb y = j := by
    unfold View.set at hj
    simpa only [Finset.mem_map, Finset.mem_univ, true_and] using hj
  obtain ⟨y, rfl⟩ := hj'
  have hw := congrFun (View.read_writes_whole (Val := Elt F) (oRowK L).view Oi f) y
  rw [View.read_apply, cast_eq] at hw
  rw [hw, hf]
  unfold tileV
  rw [rowT_apply]
  have e : imgOf ((oRowK L).view.emb y) = jL L := by
    apply Fin.ext
    show ((oRowK L).view.emb y 0).val / 100000 = (L 1).val
    rw [out_pos]
    have h0 : (L 0).val < 2 := (L 0).isLt
    have hy : (y 0).val < 50000 := (y 0).isLt
    omega
  unfold outV
  rw [e]
  rfl

/-- The task on subcore `L` of device `d`. -/
theorem tile_body (hF : (K (F := F)).Facts) (O : CellTallies nD τ sig (HIx 1)) (W : Waits sig (HIx 1)) (hO : ∀ g, O g none = 0)
    (Tb : S16x16640.Idx → BitVec 32) (Ix Oi : S1600000.Idx → BitVec 32) (hIx : ∀ j, (Ix j >>> 4).toNat < 16640) :
    iprop(levAts (K (F := F)).L (K (F := F)).lev ∗ emp
        ∗ ((tLoc d ↦[tSet (jL L)]{half (cL L)} Tb) ∗ (iLoc d ↦[cSet (wid (cL L) (jL L))]{fullShare} Ix)
            ∗ (oLoc d ↦[cSet (wid (cL L) (jL L))]{fullShare} Oi))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc2__sc_body (F := F) L tV (Memref.isWhole_whole _) iV (Memref.isWhole_whole _) oV (Memref.isWhole_whole _)
            sT (Memref.isWhole_whole _) sI (Memref.isWhole_whole _) sO (Memref.isWhole_whole _) cc2_scoped0 cc2_scoped1 cc2_scoped2)
          fun _ => iprop(((tLoc d ↦[tSet (jL L)]{half (cL L)} Tb) ∗ (iLoc d ↦[cSet (wid (cL L) (jL L))]{fullShare} Ix)
              ∗ (oLoc d ↦[cSet (wid (cL L) (jL L))]{fullShare} outV Tb Ix))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') : sProp 𝕄) := by
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%ft, HT⟩, ⟨%fi, HI⟩, ⟨%fo, HO⟩, Hbufs⟩, ⟨Hs0, Hs1, Hs2, Hsems⟩, Hw⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tRowK (F := F) d L _ _).symm) $$ Ht
  ihave Hi' := (Entails.of_eq (pts_iRowK (F := F) d L _).symm) $$ Hi
  ihave Ho' := (Entails.of_eq (pts_oRowK (F := F) d L _).symm) $$ Ho
  ihave HT' := (Entails.of_eq (pts_sT (F := F) d L _).symm) $$ HT
  ihave HI' := (Entails.of_eq (pts_sI (F := F) d L _).symm) $$ HI
  ihave HO' := (Entails.of_eq (pts_sO (F := F) d L _).symm) $$ HO
  rw [cc2__sc_body_eq_skeleton]; unfold cc2__sc_body_skel; rw [k2_part2_eq_skeleton]; unfold k2_part2_skel
  sl_exec (disch := exact View.amount_pos _ _ (show 0 < S50000.numel by decide))
  ihave HT := (Entails.of_eq (show ((sT).view.loc (V d (cV L) (jV L)) ↦{fullShare} View.write (Elt F) (sT).view ft (tile_body.sl.dma0 (F := F) L Tb) Finset.univ : sProp 𝕄)
    = ((sT).view.loc (V d (cV L) (jV L)) ↦{fullShare} rowT (F := F) L Tb) from congrArg _ (View.write_whole_univ ..))) $$ HT'
  ihave HI := (Entails.of_eq (show ((sI).view.loc (V d (cV L) (jV L)) ↦{fullShare} View.write (Elt F) (sI).view fi (tile_body.sl.dma0_1 (F := F) L Ix) Finset.univ : sProp 𝕄)
    = ((sI).view.loc (V d (cV L) (jV L)) ↦{fullShare} rowI (F := F) L Ix) from congrArg _ (View.write_whole_univ ..))) $$ HI'
  rw [bind_assoc]
  sl_for (fun (n : ℕ) (_ : Unit) => Inv (F := F) d L (rowT (F := F) L Tb) (rowI (F := F) L Ix) (rowI_range L Ix hIx) (80 * n)) $$ [HT HI HO']
  case region =>
    intro k _
    exact trip d L _ _ _ k
  · unfold Inv
    isplitl [HT]; · iexact HT
    isplitl [HI]; · iexact HI
    iexists fo; isplitr
    · ipureintro; intro j hj; exact absurd hj (by omega)
    · iexact HO'
  iintro %_ HI
  unfold Inv
  icases HI with ⟨HT, HI, ⟨%f, %hf, HO⟩⟩
  sl_exec (disch := exact View.amount_pos _ _ (show 0 < S50000.numel by decide))
  sl_step
  have hf' : ∀ j, f j = tileV (rowT (F := F) L Tb) (rowI (F := F) L Ix) (rowI_range L Ix hIx) j := fun j =>
    hf j (show (j 0).val < 80 * Scf.trips k2_t1_loop.lb k2_t1_loop.ub k2_t1_loop.st from (show (j 0).val < 50000 from (j 0).isLt))
  isplitl [Ht' Hi' Ho']
  · isplitl [Ht']; · iapply (Entails.of_eq (pts_tRowK (F := F) d L _ _)); iexact Ht'
    isplitl [Hi']; · iapply (Entails.of_eq (pts_iRowK (F := F) d L _)); iexact Hi'
    iapply (Entails.of_eq (pts_oRowK (F := F) d L _))
    ihave Ho2 := (Entails.of_eq (pointsTo_congr (ℓ := (oRowK L).view.loc (V d (cV L) (jV L))) (I := (oRowK L).view.set) (q := fullShare)
      (f := (oRowK L).view.writes (Elt F) Oi [⟨Rect.whole S50000, tile_body.sl.dma0_2 (F := F) f⟩]) (g := outV Tb Ix)
      (out_val (F := F) L Tb Ix Oi hIx f hf'))) $$ Ho'
    iexact Ho2
  isplitl [HT HI HO Hbufs]
  · isplitl [HT]; · iexists _; iexact HT
    isplitl [HI]; · iexists _; iexact HI
    isplitl [HO]; · iexists _; iexact HO
    iexact Hbufs
  isplitl [Hs0 Hs1 Hs2 Hsems]
  · isplitl [Hs0]; · iexact Hs0
    isplitl [Hs1]; · iexact Hs1
    isplitl [Hs2]; · iexact Hs2
    iexact Hsems
  iexists _; isplitr
  swap; · iexact Hw
  ipureintro; intro p _
  rcases p.2 with _ | q
  · exact .inr (.inl rfl)
  · exact .inr (.inr (congrArg some (Subsingleton.elim q 0)))

end Tile

end Cert.Proof.Kern

end
-- ==== Proof.Call.lean ====
/-
  The SparseCore call as a whole: what the handshakes carry out to the cores and the subcores and back, each task's
  obligation, and how the arrays split into the cores' and the subcores' shares and join again.
-/
module

public import proofs.«01_k».proof.Proof.Tile

@[expose] public section

noncomputable section

namespace Cert.Proof.Kern

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The positions of core `c`'s chunks. -/
def kSet (c : Fin 2) : Finset S1600000.Idx := Finset.univ.biUnion fun s : Fin 16 => cSet (wid c s)

section Pay

variable (Tb : S16x16640.Idx → BitVec 32) (Ix Oi : S1600000.Idx → BitVec 32)

/-- What core `c` is given: half a share of the whole table, and its chunks of the indices and of the result. -/
abbrev coreP (d : Dev nD) (c : Fin 2) (O : S1600000.Idx → BitVec 32) : sProp (MM F) :=
  iprop((tLoc d ↦{half c} Tb) ∗ (iLoc d ↦[kSet c]{fullShare} Ix) ∗ (oLoc d ↦[kSet c]{fullShare} O))
/-- What subcore `s` of core `c` is given: that share of its table row, and its chunk of the indices and of the result. -/
abbrev tileP (d : Dev nD) (c : Fin 2) (s : Fin 16) (O : S1600000.Idx → BitVec 32) : sProp (MM F) :=
  iprop((tLoc d ↦[tSet s]{half c} Tb) ∗ (iLoc d ↦[cSet (wid c s)]{fullShare} Ix) ∗ (oLoc d ↦[cSet (wid c s)]{fullShare} O))

/-- The handshakes of the call: out with the result at its old contents, back with the selected bits in it. -/
def P : (K (F := F)).Pay (nD := nD) (Val := Elt F) (Name := ℕ) (U := UU) where
  st := fun q d c => match q with | 0 => coreP Tb Ix d (Fin.cast nCore_zero c) Oi
  dn := fun q d c => match q with | 0 => coreP Tb Ix d (Fin.cast nCore_zero c) (outV Tb Ix)
  go := fun q d c i => match q with | 0 => tileP Tb Ix d (Fin.cast nCore_zero c) (Fin.cast nSub_zero i) Oi
  td := fun q d c i => match q with | 0 => tileP Tb Ix d (Fin.cast nCore_zero c) (Fin.cast nSub_zero i) (outV Tb Ix)
  x := fun _ _ => iprop(emp)

instance P_storable : (P (F := F) Tb Ix Oi).IsStorable where
  st q d c := match q with
    | 0 => (inferInstance : BI.Storable (upEmb : UEmb _ 𝕄) (coreP Tb Ix d (Fin.cast nCore_zero c) Oi))
  dn q d c := match q with
    | 0 => (inferInstance : BI.Storable (upEmb : UEmb _ 𝕄) (coreP Tb Ix d (Fin.cast nCore_zero c) (outV Tb Ix)))
  go q d c i := match q with
    | 0 => (inferInstance : BI.Storable (upEmb : UEmb _ 𝕄) (tileP Tb Ix d (Fin.cast nCore_zero c) (Fin.cast nSub_zero i) Oi))
  td q d c i := match q with
    | 0 => (inferInstance : BI.Storable (upEmb : UEmb _ 𝕄) (tileP Tb Ix d (Fin.cast nCore_zero c) (Fin.cast nSub_zero i) (outV Tb Ix)))

end Pay

/-! ## The obligation of a task -/

/-- The coordinates (core, subcore). -/
def coordsV (c : Fin (grid2.bound 0)) (s : Fin (grid2.bound 1)) : grid2.Coords :=
  fun | 0 => c | 1 => s | ⟨_ + 2, h⟩ => absurd h (Nat.not_lt.2 (Nat.le_add_left _ _))

section Obl

variable [FloatOps F]

local notation "tV" => (Memref.whole Cert.KernelIdeal.main_v4_scv : Memref Cert.KernelIdeal.sig Kind.scVector Space.hbm Cert.KernelIdeal.S16x16640 EltTy.i32)
local notation "iV" => (Memref.whole Cert.KernelIdeal.main_v5_scv : Memref Cert.KernelIdeal.sig Kind.scVector Space.hbm Cert.KernelIdeal.S1600000 EltTy.i32)
local notation "oV" => (Memref.whole Cert.KernelIdeal.main_v6_scv : Memref Cert.KernelIdeal.sig Kind.scVector Space.hbm Cert.KernelIdeal.S1600000 EltTy.i32)
local notation "sT" => (Memref.whole Cert.KernelIdeal.cc2_scratch0 : Memref Cert.KernelIdeal.sig Kind.scVector Space.vmem Cert.KernelIdeal.S16640 EltTy.i32)
local notation "sI" => (Memref.whole Cert.KernelIdeal.cc2_scratch1 : Memref Cert.KernelIdeal.sig Kind.scVector Space.vmem Cert.KernelIdeal.S50000 EltTy.i32)
local notation "sO" => (Memref.whole Cert.KernelIdeal.cc2_scratch2 : Memref Cert.KernelIdeal.sig Kind.scVector Space.vmem Cert.KernelIdeal.S50000 EltTy.i32)

/-- A vector subcore's program at the call's label is the kernel's body at its coordinates. -/
theorem defs₀_vector (c : Fin τ.nSC) (s : Fin τ.nSub) :
    defs₀ (F := F) (.scVector c s) 2 ()
      = SparseCore.onTile hcore2 hsub2 (fun c s => cc2__sc_body (coordsV c s)
          tV (Memref.isWhole_whole _) iV (Memref.isWhole_whole _) oV (Memref.isWhole_whole _)
          sT (Memref.isWhole_whole _) sI (Memref.isWhole_whole _) sO (Memref.isWhole_whole _) cc2_scoped0 cc2_scoped1 cc2_scoped2) ⟨⟩ c s := rfl

/-- Each task, from what the handshake hands its subcore, leaves what the handshake hands back. -/
theorem tileObl (Tb : S16x16640.Idx → BitVec 32) (Ix Oi : S1600000.Idx → BitVec 32) (hIx : ∀ j, (Ix j >>> 4).toNat < 16640)
    (hF : (K (F := F)).Facts) : (K (F := F)).TileObl (D (F := F)) 𝒱 (P Tb Ix Oi) v₀ 0 := by
  intro d c i O W hO _ _
  simp only [show (P (F := F) Tb Ix Oi).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF O W hO Tb Ix Oi hIx

end Obl

/-! ## The arrays split and join -/

theorem wid_inj {c c' : Fin 2} {s s' : Fin 16} (h : wid c s = wid c' s') : c = c' ∧ s = s' := by
  have h' : 2 * s.val + c.val = 2 * s'.val + c'.val := congrArg Fin.val h
  constructor <;> apply Fin.ext <;> omega

theorem chunk_disjoint {n n' : Fin 32} (h : n ≠ n') : Disjoint (cSet n) (cSet n') := Rect.part_disjoint hdivI h

theorem chunks_disjoint (c : Fin 2) : ∀ s ∈ (Finset.univ : Finset (Fin 16)), ∀ s' ∈ (Finset.univ : Finset (Fin 16)), s ≠ s' →
    Disjoint (cSet (wid c s)) (cSet (wid c s')) := fun _ _ _ _ h => chunk_disjoint fun e => h (wid_inj e).2

theorem rows_disjoint : ∀ s ∈ (Finset.univ : Finset (Fin 16)), ∀ s' ∈ (Finset.univ : Finset (Fin 16)), s ≠ s' → Disjoint (tSet s) (tSet s') :=
  fun _ _ _ _ h => Rect.part_disjoint hdivT h

theorem rows_cover : (Finset.univ : Finset (Fin 16)).biUnion tSet = Finset.univ := Rect.biUnion_part hdivT

theorem cores_disjoint : ∀ c ∈ (Finset.univ : Finset (Fin 2)), ∀ c' ∈ (Finset.univ : Finset (Fin 2)), c ≠ c' → Disjoint (kSet c) (kSet c') := by
  intro c _ c' _ h
  unfold kSet
  rw [Finset.disjoint_biUnion_left]; intro s _
  rw [Finset.disjoint_biUnion_right]; intro s' _
  exact chunk_disjoint fun e => h (wid_inj e).1

theorem cores_cover : (Finset.univ : Finset (Fin 2)).biUnion kSet = Finset.univ := by
  rw [← Rect.biUnion_part hdivI]
  ext x
  simp only [Finset.mem_biUnion, Finset.mem_univ, true_and, kSet]
  constructor
  · rintro ⟨c, s, h⟩; exact ⟨wid c s, h⟩
  · rintro ⟨n, h⟩
    have hn : n = wid ⟨n.val % 2, by omega⟩ ⟨n.val / 2, by omega⟩ := by
      apply Fin.ext; show n.val = 2 * (n.val / 2) + n.val % 2; omega
    exact ⟨_, _, hn ▸ h⟩

theorem tPts_rows (d : Dev nD) (q : PosShare TreeShare) (f : Buf (Elt F) (tLoc d)) :
    (tLoc d ↦{q} f : sProp 𝕄) = bigSep Finset.univ fun s : Fin 16 => tLoc d ↦[tSet s]{q} f := by
  rw [← pointsTo_biUnion Finset.univ (ℓ := tLoc d) tSet rows_disjoint, rows_cover]; try rfl
theorem iPts_chunks (d : Dev nD) (c : Fin 2) (f : Buf (Elt F) (iLoc d)) :
    (iLoc d ↦[kSet c]{fullShare} f : sProp 𝕄) = bigSep Finset.univ fun s : Fin 16 => iLoc d ↦[cSet (wid c s)]{fullShare} f :=
  pointsTo_biUnion Finset.univ (ℓ := iLoc d) (fun s => cSet (wid c s)) (chunks_disjoint c)
theorem oPts_chunks (d : Dev nD) (c : Fin 2) (f : Buf (Elt F) (oLoc d)) :
    (oLoc d ↦[kSet c]{fullShare} f : sProp 𝕄) = bigSep Finset.univ fun s : Fin 16 => oLoc d ↦[cSet (wid c s)]{fullShare} f :=
  pointsTo_biUnion Finset.univ (ℓ := oLoc d) (fun s => cSet (wid c s)) (chunks_disjoint c)
theorem iPts_cores (d : Dev nD) (f : Buf (Elt F) (iLoc d)) :
    (iLoc d ↦{fullShare} f : sProp 𝕄) = bigSep Finset.univ fun c : Fin 2 => iLoc d ↦[kSet c]{fullShare} f := by
  rw [← pointsTo_biUnion Finset.univ (ℓ := iLoc d) kSet cores_disjoint, cores_cover]; try rfl
theorem oPts_cores (d : Dev nD) (f : Buf (Elt F) (oLoc d)) :
    (oLoc d ↦{fullShare} f : sProp 𝕄) = bigSep Finset.univ fun c : Fin 2 => oLoc d ↦[kSet c]{fullShare} f := by
  rw [← pointsTo_biUnion Finset.univ (ℓ := oLoc d) kSet cores_disjoint, cores_cover]; try rfl
theorem tPts_cores (d : Dev nD) (f : Buf (Elt F) (tLoc d)) :
    (tLoc d ↦{fullShare} f : sProp 𝕄) = bigSep Finset.univ fun c : Fin 2 => tLoc d ↦{half c} f := by
  rw [show (Finset.univ : Finset (Fin 2)) = {0, 1} by decide, SparseCore.bigSep_insert' (by decide), bigSep_singleton]
  exact Entails.antisymm (pointsTo_share (PosShare.mem_left_op_right fullShare)).1 (pointsTo_share (PosShare.mem_left_op_right fullShare)).2

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What a core is given is what its subcores are given together. -/
theorem coreP_tiles (Tb : S16x16640.Idx → BitVec 32) (Ix O : S1600000.Idx → BitVec 32) (d : Dev nD) (c : Fin 2) :
    (coreP (F := F) Tb Ix d c O) = bigSep Finset.univ fun s : Fin 16 => tileP Tb Ix d c s O := by
  unfold coreP tileP
  rw [tPts_rows, iPts_chunks, oPts_chunks, bigSep_sep', bigSep_sep']

/-- The three arrays whole are what the two cores are given together. -/
theorem arrays_cores (Tb : S16x16640.Idx → BitVec 32) (Ix O : S1600000.Idx → BitVec 32) (d : Dev nD) :
    (iprop((tLoc d ↦{fullShare} Tb) ∗ (iLoc d ↦{fullShare} Ix) ∗ (oLoc d ↦{fullShare} O)) : sProp 𝕄)
      = bigSep Finset.univ fun c : Fin 2 => coreP (F := F) Tb Ix d c O := by
  unfold coreP
  rw [tPts_cores, iPts_cores, oPts_cores, bigSep_sep', bigSep_sep']

theorem vecSplit (Tb : S16x16640.Idx → BitVec 32) (Ix Oi : S1600000.Idx → BitVec 32) : (K (F := F)).VecSplit' (P Tb Ix Oi) 0 := by
  intro d c
  show coreP Tb Ix d (Fin.cast nCore_zero c) Oi ⊢ |={Set.univ}=> iprop(
      (bigSep Finset.univ fun i : Fin ((K (F := F)).nSub 0) => tileP Tb Ix d (Fin.cast nCore_zero c) (Fin.cast nSub_zero i) Oi)
      ∗ ((bigSep Finset.univ fun i : Fin ((K (F := F)).nSub 0) => tileP Tb Ix d (Fin.cast nCore_zero c) (Fin.cast nSub_zero i) (outV Tb Ix))
          -∗ coreP Tb Ix d (Fin.cast nCore_zero c) (outV Tb Ix)))
  rw [bigSep_tasks (F := F) (fun i => tileP Tb Ix d (Fin.cast nCore_zero c) i Oi),
    bigSep_tasks (F := F) (fun i => tileP Tb Ix d (Fin.cast nCore_zero c) i (outV Tb Ix)), ← coreP_tiles, ← coreP_tiles]
  iintro H; imodintro
  isplitl [H]; · iexact H
  iintro H; iexact H

theorem st0_eq (Tb : S16x16640.Idx → BitVec 32) (Ix Oi : S1600000.Idx → BitVec 32) (d : Dev nD) :
    (bigSep Finset.univ fun c : Fin ((K (F := F)).nCore 0) => (P Tb Ix Oi).st 0 d c)
      = (iprop((tLoc d ↦{fullShare} Tb) ∗ (iLoc d ↦{fullShare} Ix) ∗ (oLoc d ↦{fullShare} Oi)) : sProp 𝕄) :=
  (bigSep_cores (F := F) fun c => coreP Tb Ix d c Oi).trans (arrays_cores Tb Ix Oi d).symm
theorem dn0_eq (Tb : S16x16640.Idx → BitVec 32) (Ix Oi : S1600000.Idx → BitVec 32) (d : Dev nD) :
    (bigSep Finset.univ fun c : Fin ((K (F := F)).nCore 0) => (P Tb Ix Oi).dn 0 d c)
      = (iprop((tLoc d ↦{fullShare} Tb) ∗ (iLoc d ↦{fullShare} Ix) ∗ (oLoc d ↦{fullShare} outV Tb Ix)) : sProp 𝕄) :=
  (bigSep_cores (F := F) fun c => coreP Tb Ix d c (outV Tb Ix)).trans (arrays_cores Tb Ix (outV Tb Ix) d).symm

end Cert.Proof.Kern

end
-- ==== Proof.Main.lean ====
/-
  What each array of @main holds after each of its operations (`W0` to `WF`): the arguments as launched, the result as the
  selected bits (`WF_v10`), the table and the indices of the SparseCore call as functions of the arguments (`TbV_eq`, `IxV_eq`).
-/
module

public import proofs.«01_k».proof.Proof.Region
public import proofs.«01_k».proof.Proof.Call

@[expose] public section

noncomputable section

namespace Cert.Proof.Kern

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.StableHlo (held after)

variable {F : FTy → Type} [FloatOps F]

/-! ## The host operations -/

abbrev opCst : HloOp τ sig (Elt F) := StableHlo.nullary main_cst (fun i => FloatOps.ofBits .f32 (lit0 (S800x200.rowMajor i)))
abbrev opCst0 : HloOp τ sig (Elt F) := StableHlo.nullary main_cst_0 (fun i => FloatOps.ofBits .f32 (lit1 (S512x32.rowMajor i)))
abbrev op0 : HloOp τ sig (Elt F) := StableHlo.reshape main_arg1 main_v0 (rfl : (.f32 : EltTy) = .f32) shapeCasts_S16x1x512x512_S16x512x512
abbrev op1 : HloOp τ sig (Elt F) := StableHlo.reshape main_arg0 main_v1 (rfl : (.f32 : EltTy) = .f32) shapeCasts_S16x100000x2_S8000x400
abbrev op4 : HloOp τ sig (Elt F) := StableHlo.reshape main_v3 main_v4 (rfl : (.i32 : EltTy) = .i32) shapeCasts_S16x520x32_S16x16640
abbrev op5 : HloOp τ sig (Elt F) := StableHlo.reshape main_v2 main_v5 (rfl : (.i32 : EltTy) = .i32) shapeCasts_S8000x200_S1600000
abbrev op7 : HloOp τ sig (Elt F) := StableHlo.reshape main_v6 main_v7 (rfl : (.i32 : EltTy) = .i32) shapeCasts_S1600000_S16x100000
abbrev opC : HloOp τ sig (Elt F) := StableHlo.nullary main_c (constantI S_ 32 0#32)
abbrev op8 : HloOp τ sig (Elt F) := StableHlo.unary main_c main_v8 (broadcastInDim S16x100000 ![] bcast_S_S16x100000 : (⟨S_, .i32⟩ : BufTy).Contents (Elt F) → (⟨S16x100000, .i32⟩ : BufTy).Contents (Elt F))
abbrev op9 : HloOp τ sig (Elt F) := StableHlo.binary main_v7 main_v8 main_v9 (cmpi .ne : (⟨S16x100000, .i32⟩ : BufTy).Contents (Elt F) → (⟨S16x100000, .i32⟩ : BufTy).Contents (Elt F) → (⟨S16x100000, .i1⟩ : BufTy).Contents (Elt F))
abbrev op10 : HloOp τ sig (Elt F) := StableHlo.unary main_v9 main_v10 (id : (⟨S16x100000, .i1⟩ : BufTy).Contents (Elt F) → (⟨S16x100000, .i1⟩ : BufTy).Contents (Elt F))

/-! ## What the arrays hold -/

section Values

variable (m : (ℓ : Loc nD τ sig) → Buf (Elt F) ℓ)

/-- At launch. -/
def W0 : Valuation τ sig (Elt F) := fun b => m (0, b)
/-- When the first TensorCore call starts, -/
def WA : Valuation τ sig (Elt F) := op1.result (op0.result (opCst0.result (opCst.result (W0 m))))
/-- when it ends, -/
def WB : Valuation τ sig (Elt F) := Function.update (WA m) (Proc.devRef .tc main_v2)
  (G0 (WA m (Proc.devRef .tc main_v1)) (WA m (Proc.devRef .tc main_cst)))
/-- when the second ends, -/
def WC : Valuation τ sig (Elt F) := Function.update (WB m) (Proc.devRef .tc main_v3)
  (G1 (WB m (Proc.devRef .tc main_v0)) (WB m (Proc.devRef .tc main_cst_0)))
/-- when the SparseCore call starts, -/
def WD : Valuation τ sig (Elt F) := op5.result (op4.result (WC m))
/-- The table and the indices that the SparseCore call takes, and what its result's array held before. -/
def TbV : S16x16640.Idx → BitVec 32 := WD m (Proc.devRef .tc main_v4)
def IxV : S1600000.Idx → BitVec 32 := WD m (Proc.devRef .tc main_v5)
def OiV : S1600000.Idx → BitVec 32 := WD m (Proc.devRef .tc main_v6)
/-- When it ends, -/
def WE : Valuation τ sig (Elt F) := Function.update (WD m) (Proc.devRef .tc main_v6) (outV (TbV m) (IxV m))
/-- and when @main returns. -/
def WF : Valuation τ sig (Elt F) := op10.result (op9.result (op8.result (opC.result (op7.result (WE m)))))

theorem update_v2 (W : Valuation τ sig (Elt F)) (x) (b : Ref sig .tc) (h : b ≠ main_v2) :
    Function.update W (Proc.devRef .tc main_v2) x (Proc.devRef .tc b) = W (Proc.devRef .tc b) :=
  Function.update_of_ne (fun e => h (Proc.devRef_injective _ e)) _ _
theorem update_v3 (W : Valuation τ sig (Elt F)) (x) (b : Ref sig .tc) (h : b ≠ main_v3) :
    Function.update W (Proc.devRef .tc main_v3) x (Proc.devRef .tc b) = W (Proc.devRef .tc b) :=
  Function.update_of_ne (fun e => h (Proc.devRef_injective _ e)) _ _
theorem update_v6 (W : Valuation τ sig (Elt F)) (x) (b : Ref sig .tc) (h : b ≠ main_v6) :
    Function.update W (Proc.devRef .tc main_v6) x (Proc.devRef .tc b) = W (Proc.devRef .tc b) :=
  Function.update_of_ne (fun e => h (Proc.devRef_injective _ e)) _ _

/-- The arguments are as launched at the end. -/
theorem WF_arg0 : WF m (Proc.devRef .tc main_arg0) = W0 m (Proc.devRef .tc main_arg0) := by
  unfold WF; after_results_simp
  unfold WE; rw [update_v6 _ _ _ (by decide)]
  unfold WD; after_results_simp
  unfold WC; rw [update_v3 _ _ _ (by decide)]
  unfold WB; rw [update_v2 _ _ _ (by decide)]
  unfold WA; after_results_simp
theorem WF_arg1 : WF m (Proc.devRef .tc main_arg1) = W0 m (Proc.devRef .tc main_arg1) := by
  unfold WF; after_results_simp
  unfold WE; rw [update_v6 _ _ _ (by decide)]
  unfold WD; after_results_simp
  unfold WC; rw [update_v3 _ _ _ (by decide)]
  unfold WB; rw [update_v2 _ _ _ (by decide)]
  unfold WA; after_results_simp

/-- The result: where the selected bit is not zero. -/
theorem WF_v10 : WF m (Proc.devRef .tc main_v10)
    = (cmpi .ne (shapeCast S16x100000 (outV (TbV m) (IxV m)) shapeCasts_S1600000_S16x100000)
        (broadcastInDim S16x100000 ![] bcast_S_S16x100000 (constantI S_ 32 0#32)) : IVec S16x100000 1) := by
  unfold WF; after_results_simp
  unfold WE; rw [Function.update_self]
  rfl

/-- The matrices and the arguments, as the two TensorCore calls take them. -/
theorem WA_v1 : WA m (Proc.devRef .tc main_v1) = shapeCast S8000x400 (W0 m (Proc.devRef .tc main_arg0)) shapeCasts_S16x100000x2_S8000x400 := by
  unfold WA; after_results_simp; rfl
theorem WA_cst : WA m (Proc.devRef .tc main_cst) = fun i => FloatOps.ofBits .f32 (lit0 (S800x200.rowMajor i)) := by
  unfold WA; after_results_simp; rfl
theorem WB_v0 : WB m (Proc.devRef .tc main_v0) = shapeCast S16x512x512 (W0 m (Proc.devRef .tc main_arg1)) shapeCasts_S16x1x512x512_S16x512x512 := by
  unfold WB; rw [update_v2 _ _ _ (by decide)]
  unfold WA; after_results_simp; rfl
theorem WB_cst0 : WB m (Proc.devRef .tc main_cst_0) = fun i => FloatOps.ofBits .f32 (lit1 (S512x32.rowMajor i)) := by
  unfold WB; rw [update_v2 _ _ _ (by decide)]
  unfold WA; after_results_simp; rfl

/-- The table that the SparseCore call takes: the packed images, rows laid flat. -/
theorem TbV_eq : TbV m = shapeCast S16x16640
    (G1 (shapeCast S16x512x512 (W0 m (Proc.devRef .tc main_arg1)) shapeCasts_S16x1x512x512_S16x512x512)
      (fun i => FloatOps.ofBits .f32 (lit1 (S512x32.rowMajor i)))) shapeCasts_S16x520x32_S16x16640 := by
  unfold TbV WD; after_results_simp
  unfold WC; rw [Function.update_self, WB_v0, WB_cst0]
  rfl
/-- The indices that it takes: the packed coordinates, laid flat. -/
theorem IxV_eq : IxV m = shapeCast S1600000
    (G0 (shapeCast S8000x400 (W0 m (Proc.devRef .tc main_arg0)) shapeCasts_S16x100000x2_S8000x400)
      (fun i => FloatOps.ofBits .f32 (lit0 (S800x200.rowMajor i)))) shapeCasts_S8000x200_S1600000 := by
  unfold IxV WD; after_results_simp
  unfold WC; rw [update_v3 _ _ _ (by decide)]
  unfold WB; rw [Function.update_self, WA_v1, WA_cst]
  rfl

end Values

end Cert.Proof.Kern

end
-- ==== Proof.Indices.lean ====
/-
  The two arrays the SparseCore call takes, at the extended reals: position `n` of the indices holds the index word of point
  `n` (`index_at`), and every such word names a word of the table (`index_lt`); word `n` of an image's table is entry
  (n / 32, n % 32) of that image's block (`word_at`). The two matrices of literals are the ones that add digits and pack bits.
-/
module

public import proofs.«01_k».proof.Proof.Point
public import proofs.«01_k».proof.Proof.Table
public import proofs.«01_k».proof.Proof.Main

@[expose] public section

noncomputable section

namespace Cert.Proof.Sc

open Idealize.ShloMosaic Cert.KernelIdeal Cert.KernelIdeal.Gen Cert.Proof.Kern

/-! ## The matrices -/

/-- The first matrix, as the program spells it. -/
def mixM : FVec Ideal S800x200 .f32 := fun i => FloatOps.ofBits .f32 (lit0 (S800x200.rowMajor i))
/-- The second. -/
def packM : FVec Ideal S512x32 .f32 := fun i => FloatOps.ofBits .f32 (lit1 (S512x32.rowMajor i))

/-- An element of a literal, by its position. -/
theorem lit0_eq (i : Fin 160000) : lit0 i = lit0t i.val := by cases i; rfl
theorem lit1_eq (i : Fin 16384) : lit1 i = lit1t i.val := by cases i; rfl

theorem mixM_isMix : IsMix mixM := by
  intro k c
  have hk := k.isLt
  have hc := c.isLt
  have h : (S800x200.rowMajor (ValueIdx.ix2 k c)).val = k.val * 200 + c.val := rowMajor_val2 _ 200 rfl
  have e : mixM (ValueIdx.ix2 k c) = Ideal.ofBits .f32 (lit0t (k.val * 200 + c.val)) :=
    congrArg (Ideal.ofBits .f32) ((lit0_eq _).trans (congrArg lit0t h))
  rw [e, lit0_word _ (by omega), mixWord_val, show (k.val * 200 + c.val) / 200 = k.val by omega,
    show (k.val * 200 + c.val) % 200 = c.val by omega]

theorem packM_isPack : IsPack packM := by
  intro k c
  have hk := k.isLt
  have hc := c.isLt
  have h : (S512x32.rowMajor (ValueIdx.ix2 k c)).val = k.val * 32 + c.val := rowMajor_val2 _ 32 rfl
  have e : packM (ValueIdx.ix2 k c) = Ideal.ofBits .f32 (lit1t (k.val * 32 + c.val)) :=
    congrArg (Ideal.ofBits .f32) ((lit1_eq _).trans (congrArg lit1t h))
  rw [e, lit1_word _ (by omega), packWord_val, show (k.val * 32 + c.val) / 32 = k.val by omega,
    show (k.val * 32 + c.val) % 32 = c.val by omega]

/-! ## The indices -/

variable (m : ∀ l : Loc nD τ sig, Buf (Elt Ideal) l)

/-- The points' coordinates, -/
def pts : S16x100000x2.Idx → EReal := W0 m (Proc.devRef .tc main_arg0)
/-- and the images. -/
def imgs : S16x1x512x512.Idx → EReal := W0 m (Proc.devRef .tc main_arg1)

/-- Coordinate `k` of the point at the flat position `n`. -/
def coordAt (n : Fin 1600000) (k : Fin 2) : ℕ :=
  coord (pts m (ValueIdx.ix3 (⟨n.val / 100000, by omega⟩ : Fin 16) (⟨n.val % 100000, Nat.mod_lt _ (by decide)⟩ : Fin 100000) k))

/-- The coordinates laid out in rows of four hundred. -/
def qrows : S8000x400.Idx → EReal := shapeCast S8000x400 (pts m) shapeCasts_S16x100000x2_S8000x400

theorem qrows_at (n : Fin 1600000) (k : Fin 2) (R : Fin 8000) (C : Fin 400) (h : R.val * 400 + C.val = 2 * n.val + k.val) :
    qrows m (ValueIdx.ix2 R C)
      = pts m (ValueIdx.ix3 (⟨n.val / 100000, by omega⟩ : Fin 16) (⟨n.val % 100000, Nat.mod_lt _ (by decide)⟩ : Fin 100000) k) := by
  have hk := k.isLt
  have hn := n.isLt
  exact congrArg (pts m) (Shape.reshapeEquiv_eq_of_vals _ _ _ (n.val / 100000 * 200000 + n.val % 100000 * 2 + k.val) (R.val * 400 + C.val)
    (rowMajor_val3 _ 200000 2 rfl rfl) (rowMajor_val2 _ 400 rfl) (by omega))

theorem rows0_at (t : Fin 10) (q : S8000x400.Idx → EReal) (r : Fin 800) (c : Fin 400) :
    rows0 (F := Ideal) t q (ValueIdx.ix2 r c) = q (ValueIdx.ix2 (⟨t.val * 800 + r.val, by omega⟩ : Fin 8000) c) :=
  congrArg q (funext fun a => by match a with | ⟨0, _⟩ => rfl | ⟨1, _⟩ => rfl)

theorem blkIx_ix2 (R : Fin 8000) (C : Fin 200) :
    blkIx (ValueIdx.ix2 R C) = ValueIdx.ix2 (⟨R.val % 800, Nat.mod_lt _ (by decide)⟩ : Fin 800) C :=
  funext fun a => by match a with | ⟨0, _⟩ => rfl | ⟨1, _⟩ => rfl

theorem G0_at (q : S8000x400.Idx → EReal) (R : Fin 8000) (C : Fin 200) :
    G0 (F := Ideal) q mixM (ValueIdx.ix2 R C)
      = idxWord (coord (q (ValueIdx.ix2 R ⟨2 * C.val, by omega⟩))) (coord (q (ValueIdx.ix2 R ⟨2 * C.val + 1, by omega⟩))) C.val := by
  have e : G0 (F := Ideal) q mixM (ValueIdx.ix2 R C)
      = k0_pay1 (F := Ideal) (rows0 (F := Ideal) (blkNo (ValueIdx.ix2 R C)) q) mixM (blkIx (ValueIdx.ix2 R C)) := rfl
  have hR : (⟨(blkNo (ValueIdx.ix2 R C)).val * 800 + R.val % 800, by have := (blkNo (ValueIdx.ix2 R C)).isLt; omega⟩ : Fin 8000) = R :=
    Fin.ext (by show R.val / 800 * 800 + R.val % 800 = R.val; omega)
  rw [e, blkIx_ix2, point_at _ _ mixM_isMix, rows0_at, rows0_at]
  simp only [hR]

theorem index_at (n : Fin 1600000) : IxV m (ValueIdx.ix1 n) = idxWord (coordAt m n 0) (coordAt m n 1) (n.val % 200) := by
  have hn := n.isLt
  rw [IxV_eq]
  have e : shapeCast S1600000 (G0 (F := Ideal) (qrows m) mixM) shapeCasts_S8000x200_S1600000 (ValueIdx.ix1 n)
      = G0 (F := Ideal) (qrows m) mixM (ValueIdx.ix2 (⟨n.val / 200, by omega⟩ : Fin 8000) (⟨n.val % 200, Nat.mod_lt _ (by decide)⟩ : Fin 200)) :=
    congrArg (G0 (F := Ideal) (qrows m) mixM) (Shape.reshapeEquiv_eq_of_vals _ _ _ (n.val / 200 * 200 + n.val % 200) n.val
      (rowMajor_val2 _ 200 rfl) (rowMajor_val1 _) (by omega))
  refine Eq.trans e ?_
  rw [G0_at, qrows_at m n 0 _ _ (by show n.val / 200 * 400 + 2 * (n.val % 200) = 2 * n.val + 0; omega),
    qrows_at m n 1 _ _ (by show n.val / 200 * 400 + (2 * (n.val % 200) + 1) = 2 * n.val + 1; omega)]
  rfl

theorem idxWord_toNat (x y c : ℕ) (hc : c < 200) :
    (idxWord x y c).toNat = if x + 512 * y ≤ 262143 then x + 512 * y else 262144 + c := by
  unfold idxWord
  split
  · rw [BitVec.toNat_ofNat, Nat.mod_eq_of_lt (by omega)]
  · rw [BitVec.toNat_ofNat, Nat.mod_eq_of_lt (by omega)]

theorem idxWord_shift (x y c : ℕ) (hc : c < 200) :
    (idxWord x y c >>> 4).toNat = (if x + 512 * y ≤ 262143 then x + 512 * y else 262144 + c) / 16 := by
  rw [BitVec.toNat_ushiftRight, idxWord_toNat x y c hc, Nat.shiftRight_eq_div_pow]

/-- Every index names a word of the table. -/
theorem index_lt (j : S1600000.Idx) : (IxV m j >>> 4).toNat < 16640 := by
  obtain ⟨n, rfl⟩ : ∃ n : Fin 1600000, j = ValueIdx.ix1 n := ⟨j 0, ValueIdx.eq_ix1 j⟩
  rw [index_at, idxWord_shift _ _ _ (Nat.mod_lt _ (by decide))]
  have := Nat.mod_lt n.val (show 0 < 200 by decide)
  split <;> omega

/-! ## The tables -/

/-- The images without their one channel. -/
def planes : S16x512x512.Idx → EReal := shapeCast S16x512x512 (imgs m) shapeCasts_S16x1x512x512_S16x512x512

theorem planes_at (b : Fin 16) (y x : Fin 512) : planes m (ValueIdx.ix3 b y x) = imgs m (ValueIdx.ix4 b 0 y x) :=
  congrArg (imgs m) (Shape.reshapeEquiv_eq_of_vals _ _ _ (b.val * 262144 + 0 * 262144 + y.val * 512 + x.val) (b.val * 262144 + y.val * 512 + x.val)
    (rowMajor_val4 _ 262144 262144 512 rfl rfl rfl) (rowMajor_val3 _ 262144 512 rfl rfl) (by omega))

theorem image1_at (b : Fin 16) (q : S16x512x512.Idx → EReal) (y x : Fin 512) :
    image1 (F := Ideal) b q (ValueIdx.ix3 0 y x) = q (ValueIdx.ix3 b y x) :=
  congrArg q (funext fun a => by match a with | ⟨0, _⟩ => rfl | ⟨1, _⟩ => rfl | ⟨2, _⟩ => rfl)

theorem tblIx_ix3 (b : Fin 16) (R : Fin 520) (C : Fin 32) : tblIx (ValueIdx.ix3 b R C) = ValueIdx.ix3 0 R C :=
  funext fun a => by match a with | ⟨0, _⟩ => rfl | ⟨1, _⟩ => rfl | ⟨2, _⟩ => rfl

theorem word_at (b : Fin 16) (n : ℕ) (hn : n < 16640) : TbV m (tIx b n)
    = k1_pay1 (F := Ideal) (image1 (F := Ideal) b (planes m)) packM
        (ValueIdx.ix3 0 (⟨n / 32, by omega⟩ : Fin 520) (⟨n % 32, Nat.mod_lt _ (by decide)⟩ : Fin 32)) := by
  rw [TbV_eq]
  have e : shapeCast S16x16640 (G1 (F := Ideal) (planes m) packM) shapeCasts_S16x520x32_S16x16640 (tIx b n)
      = G1 (F := Ideal) (planes m) packM (ValueIdx.ix3 b (⟨n / 32, by omega⟩ : Fin 520) (⟨n % 32, Nat.mod_lt _ (by decide)⟩ : Fin 32)) :=
    congrArg (G1 (F := Ideal) (planes m) packM) (Shape.reshapeEquiv_eq_of_vals _ _ _ (b.val * 16640 + n / 32 * 32 + n % 32) (b.val * 16640 + n % 16640)
      (rowMajor_val3 _ 16640 32 rfl rfl) (rowMajor_val2 _ 16640 rfl) (by omega))
  refine Eq.trans e ?_
  have e2 : G1 (F := Ideal) (planes m) packM (ValueIdx.ix3 b (⟨n / 32, by omega⟩ : Fin 520) (⟨n % 32, Nat.mod_lt _ (by decide)⟩ : Fin 32))
      = k1_pay1 (F := Ideal) (image1 (F := Ideal) b (planes m)) packM
        (tblIx (ValueIdx.ix3 b (⟨n / 32, by omega⟩ : Fin 520) (⟨n % 32, Nat.mod_lt _ (by decide)⟩ : Fin 32))) := rfl
  rw [e2, tblIx_ix3]

end Cert.Proof.Sc

end
-- ==== Proof.Launch.lean ====
/-
  The program's run: @main on the TensorCore from its first operation to its last (`hmain`), and the run of the whole launch
  (`run_main`), for any floats under which every computed index names a word of the table.
-/
module

public import proofs.«01_k».proof.Proof.Main

@[expose] public section

noncomputable section

namespace Cert.Proof.Kern

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.TcCoe
open Idealize.ShloMosaic.StableHlo (held)

variable {F : FTy → Type} [FloatOps F]

local notation "𝕄" => MM F

/-! ## One host operation, and the launch's arrays -/

/-- A host operation over every array of the TensorCore. -/
theorem hostStep (d : Dev nD) (op : HloOp τ sig (Elt F)) (hS : op.bufs ⊆ URefs) (hf : op.fresh = ∅) (W : Valuation τ sig (Elt F)) (Q : PUnit → sProp 𝕄) :
    iprop(boundary (SparseCore.T d) ∗ held (SparseCore.T d) URefs W ∗ (iprop(boundary (SparseCore.T d) ∗ held (SparseCore.T d) URefs (op.result W)) -∗ Q ⟨⟩))
      ⊢ wp frame (wpE ((K (F := F)).defs (D (F := F))) 𝒱 (SparseCore.T d) none) Set.univ (hlo rfl op (fun _ => .ret ⟨⟩)) Q := by
  iintro ⟨Hb, Hh, Hk⟩
  iapply (StableHlo.wp_hlo_within 𝒱 (SparseCore.T d) none Set.univ (op := op) (S := URefs) hS (V := W) (hf := hf)) $$ [Hb Hh]
  · isplitl [Hb]; · iexact Hb
    iexact Hh
  iintro H
  rw [wp_ret]; imodintro
  iapply Hk; iexact H

/-- An operation's arrays are among the launch's where each is. -/
theorem sub1 (a : Ref sig .tc) (ha : Proc.devRef .tc a ∈ URefs := by decide) : ({Proc.devRef .tc a} : Finset (DevRef τ sig)) ⊆ URefs :=
  Finset.singleton_subset_iff.mpr ha
theorem sub2 (a b : Ref sig .tc) (ha : Proc.devRef .tc a ∈ URefs := by decide) (hb : Proc.devRef .tc b ∈ URefs := by decide) :
    ({Proc.devRef .tc a, Proc.devRef .tc b} : Finset (DevRef τ sig)) ⊆ URefs := Finset.insert_subset ha (sub1 b hb)
theorem sub3 (a b c : Ref sig .tc) (ha : Proc.devRef .tc a ∈ URefs := by decide) (hb : Proc.devRef .tc b ∈ URefs := by decide)
    (hc : Proc.devRef .tc c ∈ URefs := by decide) :
    ({Proc.devRef .tc a, Proc.devRef .tc b, Proc.devRef .tc c} : Finset (DevRef τ sig)) ⊆ URefs := Finset.insert_subset ha (sub2 b c hb hc)

/-- The launch's arrays, held at the launch's contents. -/
theorem unscoped_held (m : (ℓ : Loc nD τ sig) → Buf (Elt F) ℓ) :
    (unscopedBufs (0 : Dev nD) (fun b => m ((SparseCore.T 0).loc b)) : sProp 𝕄) = held (SparseCore.T 0) URefs (W0 m) := by
  unfold unscopedBufs StableHlo.held URefs Pipeline.ucRefs StableHlo.tcRefs
  rw [Finset.filter_map, bigSep_map]
  rfl

/-- The three arrays of the SparseCore call, -/
abbrev S3 : Finset (DevRef τ sig) := {Proc.devRef .tc main_v4, Proc.devRef .tc main_v5, Proc.devRef .tc main_v6}

theorem held_S3 (W : Valuation τ sig (Elt F)) : (held (SparseCore.T 0) S3 W : sProp 𝕄)
    = iprop((tLoc 0 ↦{fullShare} W (Proc.devRef .tc main_v4)) ∗ (iLoc 0 ↦{fullShare} W (Proc.devRef .tc main_v5)) ∗ (oLoc 0 ↦{fullShare} W (Proc.devRef .tc main_v6))) := by
  unfold StableHlo.held S3
  rw [SparseCore.bigSep_insert' (by decide), SparseCore.bigSep_insert' (by decide), bigSep_singleton]

theorem S3_sub : S3 ⊆ URefs := by decide

/-- The arrays the claim speaks of. -/
abbrev SF : Finset (DevRef τ sig) := {Proc.devRef .tc main_v10, Proc.devRef .tc main_arg0, Proc.devRef .tc main_arg1}
theorem SF_sub : SF ⊆ URefs := by decide

theorem held_SF (W : Valuation τ sig (Elt F)) : (held (SparseCore.T 0) SF W : sProp 𝕄)
    = iprop(((SparseCore.T 0).loc main_v10 ↦{fullShare} W (Proc.devRef .tc main_v10)) ∗ ((SparseCore.T 0).loc main_arg0 ↦{fullShare} W (Proc.devRef .tc main_arg0))
        ∗ ((SparseCore.T 0).loc main_arg1 ↦{fullShare} W (Proc.devRef .tc main_arg1))) := by
  unfold StableHlo.held SF
  rw [SparseCore.bigSep_insert' (by decide), SparseCore.bigSep_insert' (by decide), bigSep_singleton]

/-! ## The resources -/

/-- What the two TensorCore calls' staging takes, per device. -/
abbrev G (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

theorem pairs_split (Φ : Fin 2 → sProp 𝕄) : bigSep Finset.univ Φ = iprop(Φ 0 ∗ Φ 1) := by
  rw [show (Finset.univ : Finset (Fin 2)) = {0, 1} by decide, SparseCore.bigSep_insert' (by decide), bigSep_singleton]

def u₀ : UU := (initOf (K (F := F)).hsCells (K (F := F)).hsToks,
  (initOf (Pipeline.cells cfgs cellOf_inj) (Pipeline.launchToks cfgs cellOf_inj), 1))

variable (m : (ℓ : Loc nD τ sig) → Buf (Elt F) ℓ) (ρ : Dev nD → PrngReg)

/-- The SparseCore call's handshakes, at the table and the indices that @main computes. -/
abbrev PV : (K (F := F)).Pay (nD := nD) (Val := Elt F) (Name := ℕ) (U := UU) := P (TbV m) (IxV m) (OiV m)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (PV m).x q thr) := by
  unfold u₀
  iintro Hu
  ihave H := (ownU_pair (initOf (K (F := F)).hsCells (K (F := F)).hsToks) (initOf (Pipeline.cells cfgs cellOf_inj) (Pipeline.launchToks cfgs cellOf_inj), (1 : Counters))) $$ Hu
  icases H with ⟨HH, HR⟩
  ihave H := (own_pair_emb embR (initOf (Pipeline.cells cfgs cellOf_inj) (Pipeline.launchToks cfgs cellOf_inj)) (1 : Counters)) $$ HR
  icases H with ⟨HP, -⟩
  ihave HP' := (show (BI.own ((Emb.inl.trans embR : Emb UK (MM F)).toFun (initOf (Pipeline.cells cfgs cellOf_inj) (Pipeline.launchToks cfgs cellOf_inj))) : sProp 𝕄)
      ⊢ _ from Pipeline.fund_ghost (Pipeline.pin (pcfgs (F := F)) adm) EP cellOf_inj) $$ HP
  imod HP' with ⟨Hg, Ht⟩
  imodintro
  isplitl [HH]; · iexact HH
  isplitl [Hg Ht]
  · rw [show (bigSep Finset.univ fun d : Dev nD => G (F := F) d)
        = iprop((bigSep Finset.univ fun d : Dev nD => bigSep Finset.univ fun p => Pipeline.cellsGhost (Pipeline.pin (pcfgs (F := F)) adm) EP p d)
          ∗ bigSep Finset.univ fun d : Dev nD => bigSep Finset.univ fun p => Pipeline.toksInit (Pipeline.pin (pcfgs (F := F)) adm) EP p d) from
      bigSep_sep' _ _ _]
    isplitl [Hg]; · iexact Hg
    iexact Ht
  rw [show (bigSep Finset.univ fun thr : Thread nD τ => bigSep Finset.univ fun q : Fin 1 => (PV m).x q thr) = bigSep Finset.univ fun _ => (BI.emp : sProp 𝕄) from
    bigSep_congr fun _ _ => bigSep_univ_of_subsingleton (0 : Fin 1), bigSep_emp_const]
  iempintro

/-! ## @main -/

theorem WB_v2 : WB m (Proc.devRef .tc main_v2) = G0 (WA m (Proc.devRef .tc main_v1)) (WA m (Proc.devRef .tc main_cst)) := by
  unfold WB; exact Function.update_self _ _ _
theorem WC_v3 : WC m (Proc.devRef .tc main_v3) = G1 (WB m (Proc.devRef .tc main_v0)) (WB m (Proc.devRef .tc main_cst_0)) := by
  unfold WC; exact Function.update_self _ _ _

/-- What the first TensorCore call leaves is `WB`, -/
theorem left0 (c : Dev nD) (w : Fin 3) : (pdats (WA m) 0 c).arrAt w cfg0.N = WB m (Proc.devRef .tc (Pipeline.arrRef spec0 w)) :=
  match w with
  | ⟨0, _⟩ => ((dat0 (WA m) c).arrAt_in 0 rfl cfg0.N).trans (update_v2 (WA m) _ main_v1 (by decide)).symm
  | ⟨1, _⟩ => ((dat0 (WA m) c).arrAt_in 1 rfl cfg0.N).trans (update_v2 (WA m) _ main_cst (by decide)).symm
  | ⟨2, _⟩ => (final0 (WA m) c).trans (WB_v2 m).symm
/-- what the second leaves `WC`. -/
theorem left1 (c : Dev nD) (w : Fin 3) : (pdats (WB m) 1 c).arrAt w cfg1.N = WC m (Proc.devRef .tc (Pipeline.arrRef spec1 w)) :=
  match w with
  | ⟨0, _⟩ => ((dat1 (WB m) c).arrAt_in 0 rfl cfg1.N).trans (update_v3 (WB m) _ main_v0 (by decide)).symm
  | ⟨1, _⟩ => ((dat1 (WB m) c).arrAt_in 1 rfl cfg1.N).trans (update_v3 (WB m) _ main_cst_0 (by decide)).symm
  | ⟨2, _⟩ => (final1 (WB m) c).trans (WC_v3 m).symm

theorem off0 (b : DevRef τ sig) (hb : b ∉ Pipeline.arrRefs (τ := τ) (pcfgs (F := F) 0).spec) : WA m b = WB m b := by
  have hne : b ≠ Proc.devRef .tc main_v2 := by
    intro e; subst e; exact hb (show Proc.devRef .tc main_v2 ∈ Pipeline.arrRefs (τ := τ) spec0 from by decide)
  unfold WB; exact (Function.update_of_ne hne _ _).symm
theorem off1 (b : DevRef τ sig) (hb : b ∉ Pipeline.arrRefs (τ := τ) (pcfgs (F := F) 1).spec) : WB m b = WC m b := by
  have hne : b ≠ Proc.devRef .tc main_v3 := by
    intro e; subst e; exact hb (show Proc.devRef .tc main_v3 ∈ Pipeline.arrRefs (τ := τ) spec1 from by decide)
  unfold WC; exact (Function.update_of_ne hne _ _).symm

/-- The SparseCore call changes its result's array alone. -/
theorem rest_E : (held (SparseCore.T 0) (URefs \ S3) (WD m) : sProp 𝕄) = held (SparseCore.T 0) (URefs \ S3) (WE m) :=
  StableHlo.held_congr (SparseCore.T 0) fun b hb => by
    have hne : b ≠ Proc.devRef .tc main_v6 := by
      intro e; subst e; exact (Finset.mem_sdiff.mp hb).2 (by decide)
    unfold WE; exact (Function.update_of_ne hne _ _).symm

abbrev FIN (_ : Dev nD) : sProp 𝕄 := held (SparseCore.T 0) SF (WF m)

theorem hmain [∀ e, Nonempty (Elt F e)] (κ : GSem nD τ sig → ℕ) (d : Dev nD) :
    iprop((K (F := F)).ctx EH (PV m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain rfl : d = 0 := Subsingleton.elim _ _
  unfold SparseCore.Cfg.tcRes SparseCore.Cfg.tcEnd G
  rw [unscoped_held, pairs_split, pairs_split]
  simp only [main, wp_bind, wp_pure]
  iintro ⟨#Hctx, Hst, ⟨Hb, Hh, Hts, -⟩, ⟨Hg0, Hg1⟩, Ht0, Ht1⟩
  ihave #Hlv := ((K (F := F)).ctx_levAts κ) $$ Hctx
  -- the matrices and the reshapes
  iapply (hostStep 0 opCst (sub1 main_cst) rfl _ _)
  isplitl [Hb]; · iexact Hb
  isplitl [Hh]; · iexact Hh
  iintro ⟨Hb, Hh⟩
  iapply (hostStep 0 opCst0 (sub1 main_cst_0) rfl _ _)
  isplitl [Hb]; · iexact Hb
  isplitl [Hh]; · iexact Hh
  iintro ⟨Hb, Hh⟩
  iapply (hostStep 0 op0 (sub2 main_arg1 main_v0) rfl _ _)
  isplitl [Hb]; · iexact Hb
  isplitl [Hh]; · iexact Hh
  iintro ⟨Hb, Hh⟩
  iapply (hostStep 0 op1 (sub2 main_arg0 main_v1) rfl _ _)
  isplitl [Hb]; · iexact Hb
  isplitl [Hh]; · iexact Hh
  iintro ⟨Hb, Hh⟩
  -- the two TensorCore calls
  iapply (regionStep (WA m) 0 (WB m) 0 (left0 m) (off0 m) _)
  isplitr; · iexact Hlv
  isplitl [Hb]; · iexact Hb
  isplitl [Hh]; · iexact Hh
  isplitl [Hst]; · iexact Hst
  isplitl [Hg0]; · iexact Hg0
  isplitl [Ht0]; · iexact Ht0
  iintro ⟨Hb, Hh, Hst⟩
  iapply (regionStep (WB m) 1 (WC m) 0 (left1 m) (off1 m) _)
  isplitr; · iexact Hlv
  isplitl [Hb]; · iexact Hb
  isplitl [Hh]; · iexact Hh
  isplitl [Hst]; · iexact Hst
  isplitl [Hg1]; · iexact Hg1
  isplitl [Ht1]; · iexact Ht1
  iintro ⟨Hb, Hh, Hst⟩
  iapply (hostStep 0 op4 (sub2 main_v3 main_v4) rfl _ _)
  isplitl [Hb]; · iexact Hb
  isplitl [Hh]; · iexact Hh
  iintro ⟨Hb, Hh⟩
  iapply (hostStep 0 op5 (sub2 main_v2 main_v5) rfl _ _)
  isplitl [Hb]; · iexact Hb
  isplitl [Hh]; · iexact Hh
  iintro ⟨Hb, Hh⟩
  -- the SparseCore call, on its three arrays
  ihave Hh' := (Entails.of_eq (show (held (SparseCore.T 0) URefs (op5.result (op4.result (WC m))) : sProp 𝕄)
      = iprop(((tLoc 0 ↦{fullShare} TbV m) ∗ (iLoc 0 ↦{fullShare} IxV m) ∗ (oLoc 0 ↦{fullShare} OiV m)) ∗ held (SparseCore.T 0) (URefs \ S3) (WE m)) from
    (StableHlo.held_sub_split (SparseCore.T 0) S3_sub (WD m)).trans (by rw [held_S3, rest_E]; rfl))) $$ Hh
  icases Hh' with ⟨H3, Hrest⟩
  iapply ((K (F := F)).wp_run (D (F := F)) 𝒱 (EH := EH) (P := PV m) κ 0 0) $$ [-]
  isplitr; · iexact Hctx
  isplitl [Hst]; · iexact Hst
  isplitl [H3]; · rw [st0_eq]; iexact H3
  iintro ⟨Hst, Hdn⟩
  ihave H3 := (Entails.of_eq (dn0_eq (TbV m) (IxV m) (OiV m) 0)) $$ Hdn
  ihave Hh := (Entails.of_eq (show (iprop(((tLoc 0 ↦{fullShare} TbV m) ∗ (iLoc 0 ↦{fullShare} IxV m) ∗ (oLoc 0 ↦{fullShare} outV (TbV m) (IxV m)))
      ∗ held (SparseCore.T 0) (URefs \ S3) (WE m)) : sProp 𝕄) = held (SparseCore.T 0) URefs (WE m) from by
    rw [StableHlo.held_sub_split (SparseCore.T 0) S3_sub (WE m), held_S3]
    unfold WE
    rw [Function.update_self, update_v6 _ _ _ (by decide), update_v6 _ _ _ (by decide)]
    rfl)) $$ [H3 Hrest]
  · isplitl [H3]; · iexact H3
    iexact Hrest
  -- the comparison
  iapply (hostStep 0 op7 (sub2 main_v6 main_v7) rfl _ _)
  isplitl [Hb]; · iexact Hb
  isplitl [Hh]; · iexact Hh
  iintro ⟨Hb, Hh⟩
  iapply (hostStep 0 opC (sub1 main_c) rfl _ _)
  isplitl [Hb]; · iexact Hb
  isplitl [Hh]; · iexact Hh
  iintro ⟨Hb, Hh⟩
  iapply (hostStep 0 op8 (sub2 main_c main_v8) rfl _ _)
  isplitl [Hb]; · iexact Hb
  isplitl [Hh]; · iexact Hh
  iintro ⟨Hb, Hh⟩
  iapply (hostStep 0 op9 (sub3 main_v7 main_v8 main_v9) rfl _ _)
  isplitl [Hb]; · iexact Hb
  isplitl [Hh]; · iexact Hh
  iintro ⟨Hb, Hh⟩
  iapply (hostStep 0 op10 (sub2 main_v9 main_v10) rfl _ _)
  isplitl [Hb]; · iexact Hb
  isplitl [Hh]; · iexact Hh
  iintro ⟨Hb, Hh⟩
  ihave Hh' := (Entails.of_eq (show (held (SparseCore.T 0) URefs (op10.result (op9.result (op8.result (opC.result (op7.result (WE m)))))) : sProp 𝕄)
      = iprop(held (SparseCore.T 0) SF (WF m) ∗ held (SparseCore.T 0) (URefs \ SF) (WF m)) from StableHlo.held_sub_split (SparseCore.T 0) SF_sub (WF m))) $$ Hh
  icases Hh' with ⟨HF, -⟩
  imodintro
  isplitl [Hst]; · iexact Hst
  isplitl [HF]; · iexact HF
  isplitl [Hb] <;> iassumption

/-! ## The run -/

/-- What the claim reads of the final memory. -/
def fq (_ : Dev nD) (s' : Phys nD τ sig (Elt F)) : Prop :=
  s'.mem.mem ((SparseCore.T 0).loc main_v10) = WF m (Proc.devRef .tc main_v10)
    ∧ s'.mem.mem ((SparseCore.T 0).loc main_arg0) = WF m (Proc.devRef .tc main_arg0)
    ∧ s'.mem.mem ((SparseCore.T 0).loc main_arg1) = WF m (Proc.devRef .tc main_arg1)

theorem hfin (d : Dev nD) (s' : Phys nD τ sig (Elt F)) : iprop(FIN m d ∗ SI s') ⊢ (⌜fq m d s'⌝ : sProp 𝕄) := by
  unfold FIN
  rw [held_SF]
  iintro ⟨⟨Hv, Hx, Ha⟩, HSI⟩
  ihave H := (persistent_entails_right (SI_pointsTo_agree (st := s') (ℓ := (SparseCore.T 0).loc main_v10) (I := Finset.univ) (q := fullShare) (f := WF m (Proc.devRef .tc main_v10)))) $$ [HSI Hv]
  · isplitl [HSI] <;> iassumption
  icases H with ⟨%hv, HSI, -⟩
  ihave H := (persistent_entails_right (SI_pointsTo_agree (st := s') (ℓ := (SparseCore.T 0).loc main_arg0) (I := Finset.univ) (q := fullShare) (f := WF m (Proc.devRef .tc main_arg0)))) $$ [HSI Hx]
  · isplitl [HSI] <;> iassumption
  icases H with ⟨%hx, HSI, -⟩
  ihave H := (SI_pointsTo_agree (st := s') (ℓ := (SparseCore.T 0).loc main_arg1) (I := Finset.univ) (q := fullShare) (f := WF m (Proc.devRef .tc main_arg1))) $$ [HSI Ha]
  · isplitl [HSI] <;> iassumption
  icases H with %ha
  ipureintro
  exact ⟨funext fun i => hv i (Finset.mem_univ i), funext fun i => hx i (Finset.mem_univ i), funext fun i => ha i (Finset.mem_univ i)⟩

/-- The program's result: where the bit that each point's index selects in its image's table is not zero. -/
def result : IVec S16x100000 1 :=
  cmpi .ne (shapeCast S16x100000 (outV (TbV m) (IxV m)) shapeCasts_S1600000_S16x100000)
    (broadcastInDim S16x100000 ![] bcast_S_S16x100000 (constantI S_ 32 0#32))

def QC : PUnit × MemSt nD τ sig (Elt F) → Prop := fun r =>
  (∀ c : Dev nD, r.2.mem ((c.tc : Thread nD τ).loc main_v10) = result m
    ∧ r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0

/-- Where every index names a word of the table, the whole program terminates without fault, the result at `result`, the
    arguments as launched and every semaphore at zero. -/
theorem run_main [∀ e, Nonempty (Elt F e)] (hIx : ∀ j, (IxV m j >>> 4).toNat < 16640) :
    θ_run (defs (F := F)) (threads (F := F)) ⟨m, fun _ => 0, ρ⟩ (QC m) :=
  SparseCore.Cfg.θ_run_sc_quiescent (K := K (F := F)) (D := D (F := F)) (𝒱 := 𝒱) (EH := EH) (P := PV m) (A := ∅) facts v₀
    (fun q hq => match q with | 0 => nomatch hq)
    (fun q _ => match q with | 0 => tileObl (TbV m) (IxV m) (OiV m) hIx facts)
    (fun q _ => match q with | 0 => SparseCore.Cfg.VecSplit.of_plain (vecSplit (TbV m) (IxV m) (OiV m)))
    m ρ main (fun d => G d) (FIN m) (u₀ (F := F)) (sep_elim_left.trans (hu₀ m)) (hmain m ρ) (fq m) (hfin m) (QC m)
    (fun _ h hz => ⟨fun c => by
      obtain rfl : c = 0 := Subsingleton.elim _ _
      exact ⟨(h 0).1.trans (WF_v10 m), (h 0).2.1.trans (WF_arg0 m), (h 0).2.2.trans (WF_arg1 m)⟩, hz⟩)

end Cert.Proof.Kern

end
-- ==== Proof.Answer.lean ====
/-
  The program's result at the extended reals, point by point (`result_at`): for a point inside its image, whether the pixel
  it names is below the threshold; for a point outside, true.
-/
module

public import proofs.«01_k».proof.Proof.Indices
public import proofs.«01_k».proof.Proof.Launch

@[expose] public section

noncomputable section

namespace Cert.Proof.Sc

open Idealize.ShloMosaic Cert.KernelIdeal Cert.KernelIdeal.Gen Cert.Proof.Kern

theorem coord_big (q : EReal) (h : ¬coord q < 512) : coord q = 10000000 :=
  outside_coord fun hi => h ((coord_lt_iff q).mpr hi)

/-- The bit that `bitOf` takes, of a word of packed bits, is the bit whose number the index's low four bits write. -/
theorem bitOf_bits (t : ℕ → Bool) (c : BitVec 32) : bitOf (BitVec.ofNat 32 (bits t 16)) c = if t (c.toNat % 16) then 1#32 else 0#32 := by
  have h : (c &&& 15#32).toNat = c.toNat % 16 := by
    rw [BitVec.toNat_and]
    exact Nat.and_two_pow_sub_one_eq_mod c.toNat 4
  unfold bitOf
  rw [BitVec.ushiftRight_eq', h, bit_word t _ (Nat.mod_lt _ (by decide))]

theorem ones_word : 65535#32 = BitVec.ofNat 32 (bits (fun _ => true) 16) := by
  have : bits (fun _ => true) 16 = 65535 := by decide
  rw [this]

variable (m : (ℓ : Loc nD τ sig) → Buf (Elt Ideal) ℓ)

/-- The word that the index of a point inside its image names, and the bit of it: the pixel's. -/
theorem bit_inside (b : Fin 16) (x y c : ℕ) (hx : x < 512) (hy : y < 512) (hc : c < 200) :
    bitOf (TbV m (tIx b (idxWord x y c >>> 4).toNat)) (idxWord x y c)
      = if below (imgs m (ValueIdx.ix4 b 0 (⟨y % 512, Nat.mod_lt _ (by decide)⟩ : Fin 512) (⟨x % 512, Nat.mod_lt _ (by decide)⟩ : Fin 512)))
        then 1#32 else 0#32 := by
  have hle : x + 512 * y ≤ 262143 := by omega
  rw [idxWord_shift _ _ _ hc, if_pos hle, word_at m b _ (by omega),
    table_at _ _ packM_isPack _ _ (show (x + 512 * y) / 16 / 32 < 512 by omega), bitOf_bits, idxWord_toNat _ _ _ hc, if_pos hle]
  have e : flag (image1 (F := Ideal) b (planes m)) ⟨(x + 512 * y) / 16 / 32, by omega⟩ (16 * ((x + 512 * y) / 16 % 32) + (x + 512 * y) % 16)
      = below (imgs m (ValueIdx.ix4 b 0 (⟨y % 512, Nat.mod_lt _ (by decide)⟩ : Fin 512) (⟨x % 512, Nat.mod_lt _ (by decide)⟩ : Fin 512))) := by
    unfold flag
    rw [image1_at, planes_at]
    have e1 : (⟨(x + 512 * y) / 16 / 32, by omega⟩ : Fin 512) = ⟨y % 512, Nat.mod_lt _ (by decide)⟩ := Fin.ext (by
      show (x + 512 * y) / 16 / 32 = y % 512
      omega)
    have e2 : (⟨(16 * ((x + 512 * y) / 16 % 32) + (x + 512 * y) % 16) % 512, Nat.mod_lt _ (by decide)⟩ : Fin 512) = ⟨x % 512, Nat.mod_lt _ (by decide)⟩ :=
      Fin.ext (by
        show (16 * ((x + 512 * y) / 16 % 32) + (x + 512 * y) % 16) % 512 = x % 512
        omega)
    rw [e1, e2]
  exact congrArg (fun b : Bool => if b then 1#32 else 0#32) e

/-- The index of a point outside names a word of ones. -/
theorem bit_outside (b : Fin 16) (x y c : ℕ) (h : ¬ x + 512 * y ≤ 262143) (hc : c < 200) :
    bitOf (TbV m (tIx b (idxWord x y c >>> 4).toNat)) (idxWord x y c) = 1#32 := by
  rw [idxWord_shift _ _ _ hc, if_neg h, word_at m b _ (by omega), table_past _ _ _ _ (show 512 ≤ (262144 + c) / 16 / 32 by omega),
    ones_word, bitOf_bits]
  rfl

/-- The bit the SparseCore call leaves for the point at the flat position `n`. -/
theorem bit_at (n : Fin 1600000) : outV (TbV m) (IxV m) (ValueIdx.ix1 n)
    = if answer (pts m) (imgs m) (⟨n.val / 100000, by omega⟩ : Fin 16) (⟨n.val % 100000, Nat.mod_lt _ (by decide)⟩ : Fin 100000) then 1#32 else 0#32 := by
  have e : outV (TbV m) (IxV m) (ValueIdx.ix1 n)
      = bitOf (TbV m (tIx (⟨n.val / 100000, by omega⟩ : Fin 16) (IxV m (ValueIdx.ix1 n) >>> 4).toNat)) (IxV m (ValueIdx.ix1 n)) := rfl
  have hc : n.val % 200 < 200 := Nat.mod_lt _ (by decide)
  rw [e, index_at]
  unfold answer
  by_cases h : coordAt m n 0 < 512 ∧ coordAt m n 1 < 512
  · rw [bit_inside m _ _ _ _ h.1 h.2 hc]
    exact (congrArg (fun b : Bool => if b then 1#32 else 0#32) (if_pos h)).symm
  · have hb : ¬ coordAt m n 0 + 512 * coordAt m n 1 ≤ 262143 := by
      intro hle
      refine h ⟨?_, ?_⟩
      · by_contra hx
        have := coord_big _ hx
        unfold coordAt at hle
        omega
      · by_contra hy
        have := coord_big _ hy
        unfold coordAt at hle
        omega
    rw [bit_outside m _ _ _ _ hb hc]
    exact (congrArg (fun b : Bool => if b then 1#32 else 0#32) (if_neg (e := true) h)).symm

/-- The program's result at point `p` of image `b`. -/
theorem result_at (b : Fin 16) (p : Fin 100000) : result m (ValueIdx.ix2 b p) = BitVec.ofBool (answer (pts m) (imgs m) b p) := by
  have hb := b.isLt
  have hp := p.isLt
  have e : shapeCast S16x100000 (outV (TbV m) (IxV m)) shapeCasts_S1600000_S16x100000 (ValueIdx.ix2 b p)
      = outV (TbV m) (IxV m) (ValueIdx.ix1 (⟨b.val * 100000 + p.val, by omega⟩ : Fin 1600000)) :=
    congrArg (outV (TbV m) (IxV m)) (Shape.reshapeEquiv_eq_of_vals _ _ _ (b.val * 100000 + p.val) (b.val * 100000 + p.val)
      (rowMajor_val1 _) (rowMajor_val2 _ 100000 rfl) rfl)
  have e2 : result m (ValueIdx.ix2 b p) = BitVec.ofBool (shapeCast S16x100000 (outV (TbV m) (IxV m)) shapeCasts_S1600000_S16x100000 (ValueIdx.ix2 b p) != 0#32) := rfl
  have eb : (⟨(b.val * 100000 + p.val) / 100000, by omega⟩ : Fin 16) = b := Fin.ext (by show (b.val * 100000 + p.val) / 100000 = b.val; omega)
  have ep : (⟨(b.val * 100000 + p.val) % 100000, Nat.mod_lt _ (by decide)⟩ : Fin 100000) = p :=
    Fin.ext (by show (b.val * 100000 + p.val) % 100000 = p.val; omega)
  rw [e2, e, bit_at]
  simp only [eb, ep]
  cases answer (pts m) (imgs m) b p <;> rfl

end Cert.Proof.Sc

end
-- ==== Proof.RefPixels.lean ====
/-
  The reference's arrays, each read at one point: the pixels of the points' coordinates (`pix_at`), whether a point lies in its
  image (`valid_at`), and the row and the column at which it looks its pixel up (`clip_at`).
-/
module

public import proofs.«01_k».proof.Proof.Asked
public import proofs.«01_k».proof.Proof.Gen.ReferenceIdeal
public import Idealize.ShloMosaic.Lib.IdealHost
public import Idealize.ShloMosaic.Lib.Pipeline.Value
public import Idealize.ShloMosaic.Lib.Pointwise.Reshape

@[expose] public section

noncomputable section

namespace Cert.Proof.Rf

open Idealize.ShloMosaic Cert.ReferenceIdeal Cert.ReferenceIdeal.Gen Cert.Proof.Sc

/-- A float constant at every point, -/
abbrev all (w : BitVec 32) : FVec Ideal S16x100000 .f32 := broadcastInDim S16x100000 ![] bcast_S_S16x100000 (constant S_ .f32 w)
/-- and an integer one. -/
abbrev allI (w : BitVec 32) : IVec S16x100000 32 := broadcastInDim S16x100000 ![] bcast_S_S16x100000 (constantI S_ 32 w)

variable (P : S16x100000x2.Idx → EReal)

/-- The first coordinates, -/
def firsts : FVec Ideal S16x100000 .f32 :=
  shapeCast S16x100000 (extractStridedSlice S16x100000x1 ![0, 0, 0] P slices_S16x100000x2_S16x100000x1_0_0_0) shapeCasts_S16x100000x1_S16x100000
/-- and the second. -/
def seconds : FVec Ideal S16x100000 .f32 :=
  shapeCast S16x100000 (extractStridedSlice S16x100000x1 ![0, 0, 1] P slices_S16x100000x2_S16x100000x1_0_0_1) shapeCasts_S16x100000x1_S16x100000

theorem flat1 (X : S16x100000x1.Idx → EReal) (b : Fin 16) (p : Fin 100000) :
    shapeCast S16x100000 X shapeCasts_S16x100000x1_S16x100000 (ValueIdx.ix2 b p) = X (ValueIdx.ix3 b p 0) :=
  congrArg X (Shape.reshapeEquiv_eq_of_vals _ _ _ (b.val * 100000 + p.val * 1 + 0) (b.val * 100000 + p.val)
    (rowMajor_val3 _ 100000 1 rfl rfl) (rowMajor_val2 _ 100000 rfl) (by omega))

theorem firsts_at (b : Fin 16) (p : Fin 100000) : firsts P (ValueIdx.ix2 b p) = P (ValueIdx.ix3 b p 0) := by
  unfold firsts
  rw [flat1]
  exact extractStridedSlice_apply _ _ _ _ (ValueIdx.ix3 b p 0) fun a => by
    match a with
    | ⟨0, _⟩ => exact (Nat.zero_add _).symm
    | ⟨1, _⟩ => exact (Nat.zero_add _).symm
    | ⟨2, _⟩ => rfl

theorem seconds_at (b : Fin 16) (p : Fin 100000) : seconds P (ValueIdx.ix2 b p) = P (ValueIdx.ix3 b p 1) := by
  unfold seconds
  rw [flat1]
  exact extractStridedSlice_apply _ _ _ _ (ValueIdx.ix3 b p 1) fun a => by
    match a with
    | ⟨0, _⟩ => exact (Nat.zero_add _).symm
    | ⟨1, _⟩ => exact (Nat.zero_add _).symm
    | ⟨2, _⟩ => rfl

variable (v : FVec Ideal S16x100000 .f32)

/-- The pixels of coordinates. -/
def pix : FVec Ideal S16x100000 .f32 :=
  Host.roundeven (Host.divf (subf (mulf (addf v (all 0x3F800000#32)) (all 0x44000000#32)) (all 0x3F800000#32)) (all 0x40000000#32))

theorem pix_at (j : S16x100000.Idx) : pix v j = pixel (v j) := rfl

/-- The pixel held to the image's range and made an integer, -/
def clip : IVec S16x100000 32 :=
  fptosi 32 (minimumf (broadcastInDim S16x100000 ![] bcast_S_S16x100000 (sitofp .f32 (constantI S_ 32 511#32)))
    (maximumf (broadcastInDim S16x100000 ![] bcast_S_S16x100000 (sitofp .f32 (constantI S_ 32 0#32))) (pix v)))
/-- and as an index, five hundred and twelve added to a negative one. -/
def look : IVec S16x100000 32 := select (cmpi .slt (clip v) (allI 0#32)) (addi (clip v) (allI 512#32)) (clip v)

theorem clip_at (j : S16x100000.Idx) (h : Inside (v j)) : clip v j = BitVec.ofNat 32 (coord (v j)) := by
  have e : clip v j = Ideal.fptosi 32 (min ((((511#32 : BitVec 32).toInt : ℝ)) : EReal) (max ((((0#32 : BitVec 32).toInt : ℝ)) : EReal) (pixel (v j)))) := rfl
  have h511 : ((((511#32 : BitVec 32).toInt : ℝ)) : EReal) = nat 511 := by
    rw [show (511#32 : BitVec 32).toInt = ((511 : ℕ) : ℤ) by decide, Int.cast_natCast]
  have h0 : ((((0#32 : BitVec 32).toInt : ℝ)) : EReal) = nat 0 := by
    rw [show (0#32 : BitVec 32).toInt = ((0 : ℕ) : ℤ) by decide, Int.cast_natCast]
  have hlt := (inside_coord h).1
  rw [e, h511, h0, clip_inside h, fptosi_nat _ (by omega)]

theorem look_at (j : S16x100000.Idx) (h : Inside (v j)) : look v j = BitVec.ofNat 32 (coord (v j)) := by
  have e : look v j = Scalar.select (BitVec.ofBool ((clip v j).slt 0#32)) (clip v j + 512#32) (clip v j) := rfl
  have hlt := (inside_coord h).1
  have hs : ∀ k : Fin 512, (BitVec.ofNat 32 k.val).slt 0#32 = false := by decide
  rw [e, clip_at v j h, hs ⟨coord (v j), hlt⟩]
  rfl

/-- The coordinate's pixel lies in the image. -/
def valid1 : IVec S16x100000 1 := andi (cmpf .oge (pix v) (all 0x00000000#32)) (cmpf .ole (pix v) (all 0x43FF8000#32))

theorem bits_inside (q : EReal) : Ideal.cmp .oge (pixel q) (nat 0) &&& Ideal.cmp .ole (pixel q) (nat 511) = BitVec.ofBool (decide (coord q < 512)) := by
  show BitVec.ofBool (decide (nat 0 ≤ pixel q)) &&& BitVec.ofBool (decide (pixel q ≤ nat 511)) = _
  rw [show decide (coord q < 512) = decide (nat 0 ≤ pixel q ∧ pixel q ≤ nat 511) from decide_eq_decide.mpr (coord_lt_iff q), Bool.decide_and]
  cases decide (nat 0 ≤ pixel q) <;> cases decide (pixel q ≤ nat 511) <;> rfl

end Cert.Proof.Rf

end
-- ==== Proof.RefValue.lean ====
/-
  The reference's result, point by point (`res_at`): the pixel it gathers, or zero outside the image, below the threshold: what
  is asked of the point.
-/
module

public import proofs.«01_k».proof.Proof.RefPixels
public import proofs.«01_k».proof.Proof.Gen.ReferenceIdeal.Run

@[expose] public section

noncomputable section

namespace Cert.Proof.Rf

open Idealize.ShloMosaic Cert.ReferenceIdeal Cert.ReferenceIdeal.Gen Cert.Proof.Sc

/-! ## The start indices -/

/-- An array of the points as one component of a start index. -/
abbrev comp (x : IVec S16x100000 32) : IVec S16x100000x1 32 := broadcastInDim S16x100000x1 ![0, 1] bcast_S16x100000_S16x100000x1_0_1 x

theorem comp_at (x : IVec S16x100000 32) (b : Fin 16) (p : Fin 100000) : comp x (ValueIdx.ix3 b p 0) = x (ValueIdx.ix2 b p) :=
  broadcastInDim_apply _ _ _ _ (ValueIdx.ix2 b p) fun a => by
    match a with
    | ⟨0, _⟩ => rfl
    | ⟨1, _⟩ => rfl

/-- The images' numbers in a column, -/
abbrev column : IVec S16x1 32 := broadcastInDim S16x1 ![0] bcast_S16_S16x1_0 (iotaInDim S16 32 0)
/-- as indices, sixteen added to a negative one, -/
abbrev lookB : IVec S16x1 32 :=
  select (cmpi .slt column (broadcastInDim S16x1 ![] bcast_S_S16x1 (constantI S_ 32 0#32)))
    (addi column (broadcastInDim S16x1 ![] bcast_S_S16x1 (constantI S_ 32 16#32))) column
/-- and at every point. -/
abbrev batch : IVec S16x100000 32 := broadcastInDim S16x100000 ![0, 1] bcast_S16x1_S16x100000_0_1 lookB

theorem batch_at (b : Fin 16) (p : Fin 100000) : batch (ValueIdx.ix2 b p) = BitVec.ofNat 32 b.val := by
  have e : batch (ValueIdx.ix2 b p) = lookB (ValueIdx.ix2 b 0) :=
    broadcastInDim_apply _ _ _ _ (ValueIdx.ix2 b 0) fun a => by
      match a with
      | ⟨0, _⟩ => rfl
      | ⟨1, _⟩ => rfl
  have e1 : column (ValueIdx.ix2 b 0) = BitVec.ofNat 32 b.val :=
    broadcastInDim_apply _ _ _ _ (ValueIdx.ix1 b) fun a => by
      match a with
      | ⟨0, _⟩ => rfl
  have e2 : lookB (ValueIdx.ix2 b 0)
      = Scalar.select (BitVec.ofBool ((column (ValueIdx.ix2 b 0)).slt 0#32)) (column (ValueIdx.ix2 b 0) + 16#32) (column (ValueIdx.ix2 b 0)) := rfl
  have hs : ∀ k : Fin 16, (BitVec.ofNat 32 k.val).slt 0#32 = false := by decide
  rw [e, e2, e1, hs b]
  rfl

variable (y x : IVec S16x100000 32)

/-- Image, channel, row and column, -/
abbrev parts : List ((s : Shape) × (s.Idx → BitVec 32)) :=
  [⟨S16x100000x1, comp batch⟩, ⟨S16x100000x1, comp (id (allI 0#32))⟩, ⟨S16x100000x1, comp y⟩, ⟨S16x100000x1, comp x⟩]

/-- the start index of each point. -/
def starts : IVec S16x100000x4 32 :=
  concatenate S16x100000x4 2 (parts y x)
    concatenates_S16x100000x1_S16x100000x1_S16x100000x1_S16x100000x1_S16x100000x4_d2

theorem piece (k : ℕ) (c : Fin 4) (hk : k < 4) (hc : c.val = k) (z : IVec S16x100000x1 32)
    (hz : (parts y x)[k] = ⟨S16x100000x1, z⟩)
    (hp : ((((parts y x).take k).map (·.1)).map
      fun s => if h : s.rank = S16x100000x4.rank then s.size ((2 : Fin 3).cast h.symm) else 0).sum = k)
    (b : Fin 16) (p : Fin 100000) : starts y x (ValueIdx.ix3 b p c) = z (ValueIdx.ix3 b p 0) :=
  concatenate_apply_piece (t := S16x100000x4) 2 (parts y x) _ (ValueIdx.ix3 b p c) k hk S16x100000x1 z hz rfl k hp (ValueIdx.ix3 b p 0)
    (fun a ha => by
      match a with
      | ⟨0, _⟩ => rfl
      | ⟨1, _⟩ => rfl
      | ⟨2, _⟩ => exact absurd rfl ha)
    hc.symm

theorem starts_at (b : Fin 16) (p : Fin 100000) :
    starts y x (ValueIdx.ix3 b p 0) = BitVec.ofNat 32 b.val ∧ starts y x (ValueIdx.ix3 b p 1) = 0#32
      ∧ starts y x (ValueIdx.ix3 b p 2) = y (ValueIdx.ix2 b p) ∧ starts y x (ValueIdx.ix3 b p 3) = x (ValueIdx.ix2 b p) :=
  ⟨(piece y x 0 0 (by decide) rfl _ rfl rfl b p).trans ((comp_at _ b p).trans (batch_at b p)),
    (piece y x 1 1 (by decide) rfl _ rfl rfl b p).trans ((comp_at _ b p).trans rfl),
    (piece y x 2 2 (by decide) rfl _ rfl rfl b p).trans (comp_at _ b p),
    (piece y x 3 3 (by decide) rfl _ rfl rfl b p).trans (comp_at _ b p)⟩

/-! ## The gather -/

/-- The gather's dimension numbers. -/
abbrev gd : GatherDims S16x1x512x512 S16x100000x4 S16x100000 := gather_S16x1x512x512_S16x100000x4_S16x100000_n_0123_n_n_0123_2_1111

theorem siIdx_eq (b : Fin 16) (p : Fin 100000) (c : Fin 4) : gd.siIdx (ValueIdx.ix2 b p) c = ValueIdx.ix3 b p c :=
  funext fun a => by
    match a with
    | ⟨0, _⟩ => rfl
    | ⟨1, _⟩ => rfl
    | ⟨2, _⟩ => rfl

theorem start_0 (I : IVec S16x100000x4 32) (b : Fin 16) (p : Fin 100000) :
    gd.start (ValueIdx.ix2 b p) I (0 : Fin 4) = min (I (gd.siIdx (ValueIdx.ix2 b p) (0 : Fin 4))).toInt.toNat 15 := rfl
theorem start_1 (I : IVec S16x100000x4 32) (b : Fin 16) (p : Fin 100000) :
    gd.start (ValueIdx.ix2 b p) I (1 : Fin 4) = min (I (gd.siIdx (ValueIdx.ix2 b p) (1 : Fin 4))).toInt.toNat 0 := rfl
theorem start_2 (I : IVec S16x100000x4 32) (b : Fin 16) (p : Fin 100000) :
    gd.start (ValueIdx.ix2 b p) I (2 : Fin 4) = min (I (gd.siIdx (ValueIdx.ix2 b p) (2 : Fin 4))).toInt.toNat 511 := rfl
theorem start_3 (I : IVec S16x100000x4 32) (b : Fin 16) (p : Fin 100000) :
    gd.start (ValueIdx.ix2 b p) I (3 : Fin 4) = min (I (gd.siIdx (ValueIdx.ix2 b p) (3 : Fin 4))).toInt.toNat 511 := rfl

theorem toNat_small : ∀ k : Fin 512, (BitVec.ofNat 32 k.val).toInt.toNat = k.val := by decide

/-- With the row and the column in the image, the gather reads the pixel they name. -/
theorem gather_at (A : S16x1x512x512.Idx → EReal) (b : Fin 16) (p : Fin 100000) (r c : Fin 512)
    (hy : y (ValueIdx.ix2 b p) = BitVec.ofNat 32 r.val) (hx : x (ValueIdx.ix2 b p) = BitVec.ofNat 32 c.val) :
    Host.gather gd A (starts y x) (ValueIdx.ix2 b p) = A (ValueIdx.ix4 b 0 r c) := by
  obtain ⟨s0, s1, s2, s3⟩ := starts_at y x b p
  have hb := b.isLt
  have hr := r.isLt
  have hc := c.isLt
  refine congrArg A (funext fun a => Fin.ext ?_)
  match a with
  | ⟨0, _⟩ =>
    refine Eq.trans (show _ = gd.start (ValueIdx.ix2 b p) (starts y x) (0 : Fin 4) + 0 + 0 from rfl) ?_
    rw [start_0, siIdx_eq, s0, toNat_small ⟨b.val, by omega⟩]
    show min b.val 15 + 0 + 0 = b.val
    omega
  | ⟨1, _⟩ =>
    refine Eq.trans (show _ = gd.start (ValueIdx.ix2 b p) (starts y x) (1 : Fin 4) + 0 + 0 from rfl) ?_
    rw [start_1, Nat.min_zero]
    rfl
  | ⟨2, _⟩ =>
    refine Eq.trans (show _ = gd.start (ValueIdx.ix2 b p) (starts y x) (2 : Fin 4) + 0 + 0 from rfl) ?_
    rw [start_2, siIdx_eq, s2, hy, toNat_small r]
    show min r.val 511 + 0 + 0 = r.val
    omega
  | ⟨3, _⟩ =>
    refine Eq.trans (show _ = gd.start (ValueIdx.ix2 b p) (starts y x) (3 : Fin 4) + 0 + 0 from rfl) ?_
    rw [start_3, siIdx_eq, s3, hx, toNat_small c]
    show min c.val 511 + 0 + 0 = c.val
    omega

/-! ## The result -/

variable (P : S16x100000x2.Idx → EReal) (A : S16x1x512x512.Idx → EReal)

/-- Whether a point lies in its image. -/
def valid : IVec S16x100000 1 :=
  andi (andi (andi (cmpf .oge (pix (firsts P)) (all 0x00000000#32)) (cmpf .ole (pix (firsts P)) (all 0x43FF8000#32)))
    (cmpf .oge (pix (seconds P)) (all 0x00000000#32))) (cmpf .ole (pix (seconds P)) (all 0x43FF8000#32))

theorem valid_at (b : Fin 16) (p : Fin 100000) : valid P (ValueIdx.ix2 b p)
    = BitVec.ofBool (decide (coord (P (ValueIdx.ix3 b p 0)) < 512)) &&& BitVec.ofBool (decide (coord (P (ValueIdx.ix3 b p 1)) < 512)) := by
  have e : valid P (ValueIdx.ix2 b p)
      = ((Ideal.cmp .oge (pixel (firsts P (ValueIdx.ix2 b p))) (Ideal.ofBits .f32 0x00000000#32)
          &&& Ideal.cmp .ole (pixel (firsts P (ValueIdx.ix2 b p))) (Ideal.ofBits .f32 0x43FF8000#32))
          &&& Ideal.cmp .oge (pixel (seconds P (ValueIdx.ix2 b p))) (Ideal.ofBits .f32 0x00000000#32))
          &&& Ideal.cmp .ole (pixel (seconds P (ValueIdx.ix2 b p))) (Ideal.ofBits .f32 0x43FF8000#32) := rfl
  rw [e, w_zero, w_511, firsts_at, seconds_at, BitVec.and_assoc (_ &&& _), bits_inside, bits_inside]

/-- The reference's result as a function of its two arguments. -/
def res : IVec S16x100000 1 :=
  cmpf .olt (select (valid P) (Host.gather gd A (starts (look (seconds P)) (look (firsts P))))
    (broadcastInDim S16x100000 ![] bcast_S_S16x100000 (id (constant S_ .f32 0x00000000#32)))) (all 0x3F7851EC#32)

theorem res_at (b : Fin 16) (p : Fin 100000) : res P A (ValueIdx.ix2 b p) = BitVec.ofBool (answer P A b p) := by
  have e : res P A (ValueIdx.ix2 b p) = BitVec.ofBool (below (Scalar.select (valid P (ValueIdx.ix2 b p))
      (Host.gather gd A (starts (look (seconds P)) (look (firsts P))) (ValueIdx.ix2 b p)) (Ideal.ofBits .f32 0x00000000#32))) := rfl
  rw [e, valid_at]
  unfold answer
  by_cases h : coord (P (ValueIdx.ix3 b p 0)) < 512 ∧ coord (P (ValueIdx.ix3 b p 1)) < 512
  · have hx : look (firsts P) (ValueIdx.ix2 b p) = BitVec.ofNat 32 (coord (P (ValueIdx.ix3 b p 0)) % 512) := by
      rw [look_at _ _ (by rw [firsts_at]; exact (coord_lt_iff _).mp h.1), firsts_at, Nat.mod_eq_of_lt h.1]
    have hy : look (seconds P) (ValueIdx.ix2 b p) = BitVec.ofNat 32 (coord (P (ValueIdx.ix3 b p 1)) % 512) := by
      rw [look_at _ _ (by rw [seconds_at]; exact (coord_lt_iff _).mp h.2), seconds_at, Nat.mod_eq_of_lt h.2]
    rw [if_pos h, decide_eq_true h.1, decide_eq_true h.2,
      gather_at _ _ A b p ⟨coord (P (ValueIdx.ix3 b p 1)) % 512, Nat.mod_lt _ (by decide)⟩ ⟨coord (P (ValueIdx.ix3 b p 0)) % 512, Nat.mod_lt _ (by decide)⟩ hy hx]
    rfl
  · rw [if_neg h]
    have hv : BitVec.ofBool (decide (coord (P (ValueIdx.ix3 b p 0)) < 512)) &&& BitVec.ofBool (decide (coord (P (ValueIdx.ix3 b p 1)) < 512)) = 0#1 := by
      by_cases h0 : coord (P (ValueIdx.ix3 b p 0)) < 512
      · rw [decide_eq_true h0, decide_eq_false fun h1 => h ⟨h0, h1⟩]; rfl
      · rw [decide_eq_false h0]; cases decide (coord (P (ValueIdx.ix3 b p 1)) < 512) <;> rfl
    rw [hv]
    have hz : Scalar.select (0#1) (Host.gather gd A (starts (look (seconds P)) (look (firsts P))) (ValueIdx.ix2 b p)) (Ideal.ofBits .f32 0x00000000#32) = 0 :=
      Ideal.ofBits_zero_f32
    rw [hz, below_zero]

/-- The program's own term for its result is that function. -/
theorem res_eq (m : (ℓ : Loc nD τ sig) → Buf (Elt Ideal) ℓ) (c : Dev nD) :
    Cert.ReferenceIdeal.Value.res_main_v65 m c = res (m ((c.tc : Thread nD τ).loc main_arg0)) (m ((c.tc : Thread nD τ).loc main_arg1)) := rfl

end Cert.Proof.Rf

end
-- ==== Proof.AloneBase.lean ====
/-
  The SparseCore call as a program of its own, from any table and any indices. What every module of its run shares: the
  program as the launch theorem sees it, the resource algebra, the call's three arrays, and the value it computes. The
  modules Alone* follow Base, Trip, Tile and Call, which prove the same of the call inside the whole kernel.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.ScCall
public import proofs.«01_k».proof.Proof.Gen.ScCall.Skeleton

@[expose] public section

noncomputable section

namespace Cert.Proof.Alone

open Cert.ScCall Cert.ScCall.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores and the SparseCores' buffers, decided. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds and the transfers' counters -/

abbrev UH : Type := URounds (GSem nD τ sig) ℕ
abbrev UU : Type := UH × Counters

/-- The program's algebra of resources. -/
abbrev MM (F : FTy → Type) : Type := MT nD τ sig (HIx 1) (Elt F) ℕ UU ℕ

/-- The handshakes' copy of the rounds library. -/
abbrev EH : Emb UH (MM F) := embL

/-! ## The arrays of the SparseCore call -/

/-- The table's words, as the TensorCore names the array, -/
abbrev tLoc (d : Dev nD) : Loc nD τ sig := (SparseCore.T d).loc main_arg0
/-- the points' word-and-bit indices, -/
abbrev iLoc (d : Dev nD) : Loc nD τ sig := (SparseCore.T d).loc main_arg1
/-- and the call's result. -/
abbrev oLoc (d : Dev nD) : Loc nD τ sig := (SparseCore.T d).loc main_v0

/-! ## The value of the SparseCore call -/

/-- The bit of the word `w` that the low four bits of the index `c` select. -/
def bitOf (w c : BitVec 32) : BitVec 32 := (w >>> (c &&& 15#32)) &&& 1#32

/-- Word `n` of table row `s`. -/
def tIx (s : Fin 16) (n : ℕ) : S16x16640.Idx := fun
  | 0 => s
  | 1 => (⟨n % 16640, Nat.mod_lt _ (by decide)⟩ : Fin 16640)

/-- The image of the flat position `j`: a hundred thousand points each. -/
def imgOf (j : S1600000.Idx) : Fin 16 := ⟨(j 0).val / 100000, by
  have h : (j 0).val < 1600000 := (j 0).isLt
  omega⟩

/-- What the call leaves at position `j`: from row `imgOf j` of the table, the word that the index names by all but its low
    four bits, and of that word the bit the low four name. -/
def outV (Tb : S16x16640.Idx → BitVec 32) (Ix : S1600000.Idx → BitVec 32) : S1600000.Idx → BitVec 32 :=
  fun j => bitOf (Tb (tIx (imgOf j) (Ix j >>> 4).toNat)) (Ix j)

end Cert.Proof.Alone

end
-- ==== Proof.AloneTrip.lean ====
/-
  The call alone: one trip of the tile's loop: five groups of sixteen indices, each read, its words gathered from the table row, the bits
  selected and stored.
-/
module

public import proofs.«01_k».proof.Proof.AloneBase

@[expose] public section

noncomputable section

namespace Cert.Proof.Alone

open Cert.ScCall Cert.ScCall.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.ScCall.main_arg0_scv : Memref Cert.ScCall.sig Kind.scVector Space.hbm Cert.ScCall.S16x16640 EltTy.i32)
local notation "iV" => (Memref.whole Cert.ScCall.main_arg1_scv : Memref Cert.ScCall.sig Kind.scVector Space.hbm Cert.ScCall.S1600000 EltTy.i32)
local notation "oV" => (Memref.whole Cert.ScCall.main_v0_scv : Memref Cert.ScCall.sig Kind.scVector Space.hbm Cert.ScCall.S1600000 EltTy.i32)
local notation "sT" => (Memref.whole Cert.ScCall.cc0_scratch0 : Memref Cert.ScCall.sig Kind.scVector Space.vmem Cert.ScCall.S16640 EltTy.i32)
local notation "sI" => (Memref.whole Cert.ScCall.cc0_scratch1 : Memref Cert.ScCall.sig Kind.scVector Space.vmem Cert.ScCall.S50000 EltTy.i32)
local notation "sO" => (Memref.whole Cert.ScCall.cc0_scratch2 : Memref Cert.ScCall.sig Kind.scVector Space.vmem Cert.ScCall.S50000 EltTy.i32)

variable [FloatOps F]

abbrev cV (L : grid0.Coords) : Fin τ.nSC := (L 0).castLE hcore0
abbrev jV (L : grid0.Coords) : Fin τ.nSub := (L 1).castLE hsub0

/-- The word number of table row position `n`. -/
def wIx (n : ℕ) (h : n < 16640) : S16640.Idx := fun
  | 0 => (⟨n, h⟩ : Fin 16640)

/-- What the loop leaves at element `j` of the out scratch, from the table row `fT` and the chunk `fI` of indices. -/
def tileV (fT : S16640.Idx → BitVec 32) (fI : S50000.Idx → BitVec 32) (hI : ∀ j, (fI j >>> 4).toNat < 16640) : S50000.Idx → BitVec 32 :=
  fun j => bitOf (fT (wIx (fI j >>> 4).toNat (hI j))) (fI j)

/-! ## A group of sixteen lanes -/

/-- The word numbers of sixteen indices, lane by lane. -/
theorem pay_shr (v : IVec S16 32) (x : S16.Idx) : k0_pay1 (F := F) v x = v x >>> 4 := by
  show IntOp.shrui .vector (v x) 4#32 = _
  rfl

/-- The bits selected, lane by lane. -/
theorem pay_bit (v w : IVec S16 32) (x : S16.Idx) : k0_pay2 (F := F) v w x = bitOf (w x) (v x) := by
  have h : (v x &&& 15#32).toNat < 32 := by
    rw [BitVec.toNat_and]; exact lt_of_le_of_lt Nat.and_le_right (by decide)
  show IntOp.andi (IntOp.shrui .vector (w x) (v x &&& 15#32)) 1#32 = _
  simp only [IntOp.shrui, h, if_true, bitOf]
  rfl

section Grp

variable (d : Dev nD) (L : grid0.Coords)

/-- One group of the loop's body: sixteen indices read at `ol`, their words gathered, the out scratch read and written at `os`. -/
def grp (ol os : Fin 1 → ℕ) (hl : ∀ a, ol a + S16.size a ≤ S50000.size a) (hs : ∀ a, os a + S16.size a ≤ S50000.size a)
    {α : Type} (k : Prog (TpuEff nD τ sig (Elt F) Λ₀ (.scVector (cV L) (jV L))) α) :
    Prog (TpuEff nD τ sig (Elt F) Λ₀ (.scVector (cV L) (jV L))) α :=
  .op (.load sI (Rect.unit (s := S50000) ol S16.size hl).toLoadRect (View.loadsAt_vmem h_S16)) fun (v : Vec F S16 .i32) =>
  .op (.assume (k0_chk1 (k0_pay1 v)) (k0_chk1.dec (k0_pay1 v))) fun hw =>
  SparseCore.vectorLoadIdx sT ![k0_pay1 v] (k0_idx1_inb (k0_pay1 v) hw.down) (View.loads_vmem h_S16640) >>= fun w =>
  .op (.load sO (Rect.unit (s := S50000) os S16.size hs).toLoadRect (View.loadsAt_vmem h_S16)) fun _ =>
  .op (.store sO (Rect.unit (s := S50000) os S16.size hs) (k0_pay2 v w) Finset.univ (View.stores_vmem_bits_univ h_S16 rfl) (.inl rfl)) fun _ => k

/-- The loop's invariant: the table row and the indices as copied, and the first `n` elements of the out scratch done. -/
def Inv (fT : S16640.Idx → BitVec 32) (fI : S50000.Idx → BitVec 32) (hI : ∀ j, (fI j >>> 4).toNat < 16640) (n : ℕ) : sProp 𝕄 :=
  iprop(((sT).view.loc (V d (cV L) (jV L)) ↦{fullShare} fT) ∗ ((sI).view.loc (V d (cV L) (jV L)) ↦{fullShare} fI)
    ∗ ∃ fO : S50000.Idx → BitVec 32, ⌜∀ j : S50000.Idx, (j 0).val < n → fO j = tileV fT fI hI j⌝
        ∗ ((sO).view.loc (V d (cV L) (jV L)) ↦{fullShare} fO))

theorem grp_val (fT : S16640.Idx → BitVec 32) (fI : S50000.Idx → BitVec 32) (hI : ∀ j, (fI j >>> 4).toNat < 16640) (n : ℕ)
    (hl hs : ∀ a, (![n] : Fin 1 → ℕ) a + S16.size a ≤ S50000.size a)
    (hc : k0_chk1 (k0_pay1 (F := F) ((sI).view.readAt (Elt F) (Rect.unit (s := S50000) ![n] S16.size hl).toLoadRect fI)))
    (fO : S50000.Idx → BitVec 32) (hO : ∀ j : S50000.Idx, (j 0).val < n → fO j = tileV fT fI hI j)
    (j : S50000.Idx) (hj : (j 0).val < n + 16) :
    ((sO).access (Rect.unit (s := S50000) ![n] S16.size hs)).write (Elt F) fO
      (k0_pay2 (F := F) ((sI).view.readAt (Elt F) (Rect.unit (s := S50000) ![n] S16.size hl).toLoadRect fI)
        (loadIdx (((sT).access (Rect.whole S16640)).read (Elt F) fT)
          ![k0_pay1 (F := F) ((sI).view.readAt (Elt F) (Rect.unit (s := S50000) ![n] S16.size hl).toLoadRect fI)]
          (k0_idx1_inb _ hc))) Finset.univ j = tileV fT fI hI j := by
  by_cases hn : (j 0).val < n
  · rw [View.write_of_not_mem, hO j hn]
    intro hm
    obtain ⟨x, -, hx⟩ := Finset.mem_map.mp hm
    have : n + 1 * (x 0).val = (j 0).val := congrArg (fun y : S50000.Idx => (y 0).val) hx
    omega
  · let x : S16.Idx := fun
      | 0 => (⟨(j 0).val - n, by omega⟩ : Fin 16)
    have hx : (Rect.unit (s := S50000) ![n] S16.size hl).emb x = j := by
      funext a
      match a with
      | 0 =>
        refine Fin.ext ?_
        show n + 1 * ((j 0).val - n) = (j 0).val
        omega
    have hx' : ((sO).access (Rect.unit (s := S50000) ![n] S16.size hs)).emb x = j := hx
    conv_lhs => rw [← hx']
    rw [View.write_emb_of_mem _ _ (Finset.mem_univ x)]
    show k0_pay2 (F := F) _ _ x = _
    rw [pay_bit]
    have hvx : ((sI).view.readAt (Elt F) (Rect.unit (s := S50000) ![n] S16.size hl).toLoadRect fI : IVec S16 32) x = fI j :=
      congrArg fI hx
    rw [hvx]
    unfold tileV
    congr 1
    refine congrArg fT ?_
    funext a
    match a with
    | 0 =>
      refine Fin.ext ?_
      show 0 + 1 * (k0_pay1 (F := F) ((sI).view.readAt (Elt F) (Rect.unit (s := S50000) ![n] S16.size hl).toLoadRect fI) x).toNat = (fI j >>> 4).toNat
      rw [pay_shr, hvx]
      omega

/-- The group takes the invariant from `n` to `n + 16`. -/
theorem grp_wp (fT : S16640.Idx → BitVec 32) (fI : S50000.Idx → BitVec 32) (hI : ∀ j, (fI j >>> 4).toNat < 16640) (n : ℕ)
    {ol os : Fin 1 → ℕ} (eol : ol = ![n]) (eos : os = ![n]) (hl : ∀ a, ol a + S16.size a ≤ S50000.size a)
    (hs : ∀ a, os a + S16.size a ≤ S50000.size a) {α : Type} {k : Prog (TpuEff nD τ sig (Elt F) Λ₀ (.scVector (cV L) (jV L))) α}
    {Q : α → sProp 𝕄}
    (hk : Inv (F := F) d L fT fI hI (n + 16) ⊢ wp frame (wpE (defs₀ (F := F)) 𝒱₀ (V d (cV L) (jV L)) none) Set.univ k Q) :
    Inv (F := F) d L fT fI hI n
      ⊢ wp frame (wpE (defs₀ (F := F)) 𝒱₀ (V d (cV L) (jV L)) none) Set.univ (grp (F := F) L ol os hl hs k) Q := by
  subst eol eos
  have hv : ∀ x, ((sI).view.readAt (Elt F) (Rect.unit (s := S50000) ![n] S16.size hl).toLoadRect fI : IVec S16 32) x
      = fI ((Rect.unit (s := S50000) ![n] S16.size hl).emb x) := fun x => rfl
  have hc : k0_chk1 (k0_pay1 (F := F) ((sI).view.readAt (Elt F) (Rect.unit (s := S50000) ![n] S16.size hl).toLoadRect fI)) := by
    intro a x
    match a with
    | 0 =>
      show (k0_pay1 (F := F) _ x).toNat < 16640
      rw [pay_shr, hv]
      exact hI _
  unfold Inv grp
  iintro ⟨HT, HI, ⟨%fO, %hO, HO⟩⟩
  iapply (wp_load 𝒱₀ (V d (cV L) (jV L)) none Set.univ (m := sI) (S := Finset.univ) (Finset.subset_univ _)) $$ HI; iintro HI
  rw [wp_assume_of _ _ _ _ hc]
  ihave HT' := (Entails.of_eq (show ((sT).view.loc (V d (cV L) (jV L)) ↦{fullShare} fT : sProp 𝕄)
    = (((sT).access (.whole S16640)).loc (V d (cV L) (jV L)) ↦{fullShare} fT) from rfl)) $$ HT
  iapply (SparseCore.wp_vectorLoadIdx 𝒱₀ (V d (cV L) (jV L)) none Set.univ (base := sT) (S := Finset.univ) (q := fullShare) (Finset.subset_univ _)) $$ HT'; iintro HT'
  iapply (wp_load 𝒱₀ (V d (cV L) (jV L)) none Set.univ (m := sO) (S := Finset.univ) (Finset.subset_univ _)) $$ HO; iintro HO
  ihave HO' := (Entails.of_eq (show ((sO).view.loc (V d (cV L) (jV L)) ↦{fullShare} fO : sProp 𝕄)
    = (((sO).access (Rect.unit (s := S50000) ![n] S16.size hs)).loc (V d (cV L) (jV L)) ↦{fullShare} fO) from rfl)) $$ HO
  iapply (wp_store 𝒱₀ (V d (cV L) (jV L)) none Set.univ (m := sO) (r := Rect.unit (s := S50000) ![n] S16.size hs)
    (Mk := Finset.univ) (S := Finset.univ) (Finset.subset_univ _)) $$ HO'; iintro HO'
  iapply hk
  unfold Inv
  isplitl [HT']
  · iexact HT'
  isplitl [HI]
  · iexact HI
  iexists _
  isplitr
  rotate_left
  · iexact HO'
  · ipureintro
    exact fun j hj => grp_val fT fI hI n hl hs hc fO hO j hj

set_option maxHeartbeats 4000000 in
/-- The loop's body is five groups. -/
theorem body_eq (k : Fin k0_t1_loop.trips) :
    k0_t1_body (F := F) L tV (Memref.isWhole_whole _) iV (Memref.isWhole_whole _) oV (Memref.isWhole_whole _)
        sT (Memref.isWhole_whole _) sI (Memref.isWhole_whole _) sO (Memref.isWhole_whole _) cc0_scoped0 cc0_scoped1 cc0_scoped2 k ⟨⟩
      = (grp (F := F) L (k0_off3 k) (k0_off4 k 0#32) (k0_off3_inb k) (k0_off4_inb k 0) <|
          grp (F := F) L (k0_off4 k 1#32) (k0_off5 k 1#32) (k0_off4_inb k 1) (k0_off5_inb k 0) <|
          grp (F := F) L (k0_off5 k 2#32) (k0_off6 k 2#32) (k0_off5_inb k 1) (k0_off6_inb k 0) <|
          grp (F := F) L (k0_off6 k 3#32) (k0_off7 k 3#32) (k0_off6_inb k 1) (k0_off7_inb k 0) <|
          grp (F := F) L (k0_off7 k 4#32) (k0_off8 k) (k0_off7_inb k 1) (k0_off8_inb k) <| .ret ⟨⟩) := by
  unfold k0_t1_body
  rw [k0_part1_eq_skeleton]
  unfold k0_part1_skel
  rfl

/-- A trip of the loop takes the invariant from `80 k` to `80 (k + 1)`. -/
theorem trip (fT : S16640.Idx → BitVec 32) (fI : S50000.Idx → BitVec 32) (hI : ∀ j, (fI j >>> 4).toNat < 16640)
    (k : Fin k0_t1_loop.trips) :
    Inv (F := F) d L fT fI hI (80 * k.val)
      ⊢ wp frame (wpE (defs₀ (F := F)) 𝒱₀ (V d (cV L) (jV L)) none) Set.univ
          (k0_t1_body (F := F) L tV (Memref.isWhole_whole _) iV (Memref.isWhole_whole _) oV (Memref.isWhole_whole _)
            sT (Memref.isWhole_whole _) sI (Memref.isWhole_whole _) sO (Memref.isWhole_whole _) cc0_scoped0 cc0_scoped1 cc0_scoped2 k ⟨⟩)
          fun _ => Inv (F := F) d L fT fI hI (80 * (k.val + 1)) := by
  rw [body_eq]
  refine grp_wp d L fT fI hI (80 * k.val) (k0_off3_eq k) (k0_off4_eq k 0) _ _ ?_
  refine grp_wp d L fT fI hI (80 * k.val + 16) (k0_off4_eq k 1) (k0_off5_eq k 0) _ _ ?_
  refine grp_wp d L fT fI hI (80 * k.val + 16 + 16) (k0_off5_eq k 1) (k0_off6_eq k 0) _ _ ?_
  refine grp_wp d L fT fI hI (80 * k.val + 16 + 16 + 16) (k0_off6_eq k 1) (k0_off7_eq k 0) _ _ ?_
  refine grp_wp d L fT fI hI (80 * k.val + 16 + 16 + 16 + 16) (k0_off7_eq k 1) (k0_off8_eq k) _ _ ?_
  have e : 80 * k.val + 16 + 16 + 16 + 16 + 16 = 80 * (k.val + 1) := by omega
  rw [e]
  iintro H
  sl_step
  iexact H

end Grp

end Cert.Proof.Alone

end
-- ==== Proof.AloneTile.lean ====
/-
  The call alone: one task of the SparseCore call: on subcore (c, s) the table's row `s` and a chunk of fifty thousand indices are copied
  in, the loop selects their bits, and the chunk of the result is copied out.
-/
module

public import proofs.«01_k».proof.Proof.AloneTrip
public import Idealize.ShloMosaic.Lib.Pointwise.Reshape

@[expose] public section

noncomputable section

namespace Cert.Proof.Alone

open Cert.ScCall Cert.ScCall.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "tV" => (Memref.whole Cert.ScCall.main_arg0_scv : Memref Cert.ScCall.sig Kind.scVector Space.hbm Cert.ScCall.S16x16640 EltTy.i32)
local notation "iV" => (Memref.whole Cert.ScCall.main_arg1_scv : Memref Cert.ScCall.sig Kind.scVector Space.hbm Cert.ScCall.S1600000 EltTy.i32)
local notation "oV" => (Memref.whole Cert.ScCall.main_v0_scv : Memref Cert.ScCall.sig Kind.scVector Space.hbm Cert.ScCall.S1600000 EltTy.i32)
local notation "sT" => (Memref.whole Cert.ScCall.cc0_scratch0 : Memref Cert.ScCall.sig Kind.scVector Space.vmem Cert.ScCall.S16640 EltTy.i32)
local notation "sI" => (Memref.whole Cert.ScCall.cc0_scratch1 : Memref Cert.ScCall.sig Kind.scVector Space.vmem Cert.ScCall.S50000 EltTy.i32)
local notation "sO" => (Memref.whole Cert.ScCall.cc0_scratch2 : Memref Cert.ScCall.sig Kind.scVector Space.vmem Cert.ScCall.S50000 EltTy.i32)

/-! ## The rows and the chunks -/

theorem hdivT : 16 ∣ S16x16640.size 0 := ⟨1, rfl⟩
theorem hdivI : 32 ∣ S1600000.size 0 := ⟨50000, rfl⟩
/-- Row `s` of the table. -/
abbrev tSet (s : Fin 16) : Finset S16x16640.Idx := (Rect.part (s := S16x16640) (a₀ := 0) hdivT s).set
/-- The `n`-th chunk of fifty thousand positions. -/
abbrev cSet (n : Fin 32) : Finset S1600000.Idx := (Rect.part (s := S1600000) (a₀ := 0) hdivI n).set
/-- The chunk of subcore `s` of core `c`. -/
def wid (c : Fin 2) (s : Fin 16) : Fin 32 := ⟨2 * s.val + c.val, by omega⟩
/-- The share of the table that core `c` reads it at: one half. -/
def half (c : Fin 2) : PosShare TreeShare := if c.val = 0 then fullShare.left else fullShare.right

section Tile

variable (d : Dev nD) (L : grid0.Coords)

theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)

theorem k0_off1_eq : ∀ L : grid0.Coords, k0_off1 L = ![(L 1).val, 0] := by decide +kernel

abbrev tRowK (L : grid0.Coords) : Memref sig .scVector .hbm S16640 .i32 :=
  ((tV).slice (Rect.unit (s := S16x16640) (k0_off1 L) S1x16640.size (k0_off1_inb L)) (fun _ => rfl)).squeeze S16640 squeezes_S1x16640_S16640
abbrev iRowK (L : grid0.Coords) : Memref sig .scVector .hbm S50000 .i32 :=
  (iV).slice (Rect.unit (s := S1600000) (k0_off2 L) S50000.size (k0_off2_inb L)) (fun _ => rfl)
abbrev oRowK (L : grid0.Coords) : Memref sig .scVector .hbm S50000 .i32 :=
  (oV).slice (Rect.unit (s := S1600000) (k0_off2 L) S50000.size (k0_off2_inb L)) (fun _ => rfl)

theorem rectT_eq : Rect.unit (s := S16x16640) (k0_off1 L) S1x16640.size (k0_off1_inb L) = Rect.part (s := S16x16640) (a₀ := 0) hdivT (jL L) := by
  unfold Rect.part Rect.block
  congr 1 <;> funext a
  · rw [k0_off1_eq]
    match a with
    | 0 => simp [Shape.partIx, Shape.partSize]
    | 1 => simp [Shape.partIx, Shape.partSize]
  · match a with
    | 0 => simp [Shape.partSize]
    | 1 => simp [Shape.partSize]
theorem rectI_eq : Rect.unit (s := S1600000) (k0_off2 L) S50000.size (k0_off2_inb L)
    = Rect.part (s := S1600000) (a₀ := 0) hdivI (wid (cL L) (jL L)) := by
  unfold Rect.part Rect.block
  congr 1 <;> funext a
  · rw [k0_off2_eq]
    match a with
    | 0 => simp [Shape.partIx, Shape.partSize, wid]; omega
  · match a with
    | 0 => simp [Shape.partSize]

theorem set_tRowK : (tRowK L).view.set = tSet (jL L) := by
  show (((tV).view.slice (Rect.unit (s := S16x16640) (k0_off1 L) S1x16640.size (k0_off1_inb L))).reshape S16640 squeezes_S1x16640_S16640.numel_eq).set = _
  rw [View.set_reshape, View.set_slice]
  exact Finset.map_refl.trans (rectT_eq L ▸ rfl)
theorem set_iRowK : (iRowK L).view.set = cSet (wid (cL L) (jL L)) := by
  show ((iV).view.slice (Rect.unit (s := S1600000) (k0_off2 L) S50000.size (k0_off2_inb L))).set = _
  rw [View.set_slice]
  exact Finset.map_refl.trans (rectI_eq L ▸ rfl)
theorem set_oRowK : (oRowK L).view.set = cSet (wid (cL L) (jL L)) := by
  show ((oV).view.slice (Rect.unit (s := S1600000) (k0_off2 L) S50000.size (k0_off2_inb L))).set = _
  rw [View.set_slice]
  exact Finset.map_refl.trans (rectI_eq L ▸ rfl)

theorem pts_tRowK (q : PosShare TreeShare) (f : Buf (Elt F) (tLoc d)) :
    ((tRowK L).view.loc (V d (cV L) (jV L)) ↦[(tRowK L).view.set]{q} f : sProp 𝕄) = tLoc d ↦[tSet (jL L)]{q} f := by
  rw [set_tRowK]
theorem pts_iRowK (f : Buf (Elt F) (iLoc d)) :
    ((iRowK L).view.loc (V d (cV L) (jV L)) ↦[(iRowK L).view.set]{fullShare} f : sProp 𝕄) = iLoc d ↦[cSet (wid (cL L) (jL L))]{fullShare} f := by
  rw [set_iRowK]
theorem pts_oRowK (f : Buf (Elt F) (oLoc d)) :
    ((oRowK L).view.loc (V d (cV L) (jV L)) ↦[(oRowK L).view.set]{fullShare} f : sProp 𝕄) = oLoc d ↦[cSet (wid (cL L) (jL L))]{fullShare} f := by
  rw [set_oRowK]

/-! ## The subcore's semaphores and scratches -/

abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)

/-- The subcore's semaphores are the three transfers' and the rest. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0
          ∗ bigSep ((((ownCells (V d (cV L) (jV L))).erase (cell0 d (cV L) (jV L))).erase (cell1 d (cV L) (jV L))).erase (cell2 d (cV L) (jV L)))
              fun g => semVal g 0) := by
  unfold SparseCore.Cfg.ownSems0
  rw [SparseCore.bigSep_erase' ((mem_ownCells (g := cell0 d (cV L) (jV L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc0_scoped2.sem : SemLoc sig).isScoped .scVector = true; decide⟩⟩⟩)]

/-- The subcore's buffers are the three scratches, each at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

variable [FloatOps F]

theorem pts_sT (f : Buf (Elt F) ((V d (cV L) (jV L)).loc cc0_scratch0)) :
    ((sT).view.loc (V d (cV L) (jV L)) ↦{fullShare} f : sProp 𝕄) = (V d (cV L) (jV L)).loc cc0_scratch0 ↦{fullShare} f := rfl
theorem pts_sI (f : Buf (Elt F) ((V d (cV L) (jV L)).loc cc0_scratch1)) :
    ((sI).view.loc (V d (cV L) (jV L)) ↦{fullShare} f : sProp 𝕄) = (V d (cV L) (jV L)).loc cc0_scratch1 ↦{fullShare} f := rfl
theorem pts_sO (f : Buf (Elt F) ((V d (cV L) (jV L)).loc cc0_scratch2)) :
    ((sO).view.loc (V d (cV L) (jV L)) ↦{fullShare} f : sProp 𝕄) = (V d (cV L) (jV L)).loc cc0_scratch2 ↦{fullShare} f := rfl

/-- What the copies leave in the two scratches: table row `jL L`, and the chunk of the indices. -/
def rowT (Tb : S16x16640.Idx → BitVec 32) : S16640.Idx → BitVec 32 := (tRowK L).view.read (Elt F) Tb
def rowI (Ix : S1600000.Idx → BitVec 32) : S50000.Idx → BitVec 32 := (iRowK L).view.read (Elt F) Ix

theorem rowI_range (Ix : S1600000.Idx → BitVec 32) (hIx : ∀ j, (Ix j >>> 4).toNat < 16640) :
    ∀ j, (rowI (F := F) L Ix j >>> 4).toNat < 16640 := fun j => hIx ((iRowK L).view.emb j)

/-- Position `n` of the row as copied is position `n` of the table's row. -/
theorem rowT_apply (Tb : S16x16640.Idx → BitVec 32) (n : ℕ) (hn : n < 16640) :
    rowT (F := F) L Tb (wIx n hn) = Tb (tIx (jL L) n) := by
  have hj : (L 1).val = (jL L).val := rfl
  show Tb ((Rect.unit (s := S16x16640) (k0_off1 L) S1x16640.size (k0_off1_inb L)).emb (Shape.reshapeEquiv squeezes_S1x16640_S16640.numel_eq (wIx n hn))) = _
  congr 1
  have e : Shape.reshapeEquiv (s := S1x16640) squeezes_S1x16640_S16640.numel_eq (wIx n hn)
      = (fun | 0 => (⟨0, by decide⟩ : Fin 1) | 1 => (⟨n, hn⟩ : Fin 16640) : S1x16640.Idx) := by
    refine Shape.reshapeEquiv_eq_of_vals _ _ _ n n ?_ ?_ rfl
    · rw [rowMajor_val2 _ 16640 rfl]; simp
    · rw [rowMajor_val1]; rfl
  rw [e]
  funext a
  apply Fin.ext
  match a with
  | 0 => simp [Rect.emb, Rect.unit, k0_off1_eq, tIx]
  | 1 => simp [Rect.emb, Rect.unit, k0_off1_eq, tIx, Nat.mod_eq_of_lt hn]

theorem out_pos (y : S50000.Idx) : ((oRowK L).view.emb y 0).val = 100000 * (L 1).val + 50000 * (L 0).val + (y 0).val := by
  show (((Rect.unit (s := S1600000) (k0_off2 L) S50000.size (k0_off2_inb L)).emb y) 0).val = _
  simp [Rect.emb, Rect.unit, k0_off2_eq]

/-- Copying the done scratch out leaves the call's value on the chunk. -/
theorem out_val (Tb : S16x16640.Idx → BitVec 32) (Ix Oi : S1600000.Idx → BitVec 32) (hIx : ∀ j, (Ix j >>> 4).toNat < 16640)
    (f : S50000.Idx → BitVec 32)
    (hf : ∀ j, f j = tileV (rowT (F := F) L Tb) (rowI (F := F) L Ix) (rowI_range L Ix hIx) j)
    (j : S1600000.Idx) (hj : j ∈ (oRowK L).view.set) :
    (oRowK L).view.writes (Elt F) Oi [⟨Rect.whole S50000, f⟩] j = outV Tb Ix j := by
  have hj' : ∃ y, (oRowK L).view.emb y = j := by
    unfold View.set at hj
    simpa only [Finset.mem_map, Finset.mem_univ, true_and] using hj
  obtain ⟨y, rfl⟩ := hj'
  have hw := congrFun (View.read_writes_whole (Val := Elt F) (oRowK L).view Oi f) y
  rw [View.read_apply, cast_eq] at hw
  rw [hw, hf]
  unfold tileV
  rw [rowT_apply]
  have e : imgOf ((oRowK L).view.emb y) = jL L := by
    apply Fin.ext
    show ((oRowK L).view.emb y 0).val / 100000 = (L 1).val
    rw [out_pos]
    have h0 : (L 0).val < 2 := (L 0).isLt
    have hy : (y 0).val < 50000 := (y 0).isLt
    omega
  unfold outV
  rw [e]
  rfl

/-- The task on subcore `L` of device `d`. -/
theorem tile_body (hF : (K (F := F)).Facts) (O : CellTallies nD τ sig (HIx 1)) (W : Waits sig (HIx 1)) (hO : ∀ g, O g none = 0)
    (Tb : S16x16640.Idx → BitVec 32) (Ix Oi : S1600000.Idx → BitVec 32) (hIx : ∀ j, (Ix j >>> 4).toNat < 16640) :
    iprop(levAts (K (F := F)).L (K (F := F)).lev ∗ emp
        ∗ ((tLoc d ↦[tSet (jL L)]{half (cL L)} Tb) ∗ (iLoc d ↦[cSet (wid (cL L) (jL L))]{fullShare} Ix)
            ∗ (oLoc d ↦[cSet (wid (cL L) (jL L))]{fullShare} Oi))
        ∗ scopedBufs (V d (cV L) (jV L)) ∗ scopedSems0 (V d (cV L) (jV L)) ∗ owes (V d (cV L) (jV L)) O W)
      ⊢ (wp frame (wpE (defs₀ (F := F)) 𝒱₀ (V d (cV L) (jV L)) none) Set.univ
          (cc0__sc_body (F := F) L tV (Memref.isWhole_whole _) iV (Memref.isWhole_whole _) oV (Memref.isWhole_whole _)
            sT (Memref.isWhole_whole _) sI (Memref.isWhole_whole _) sO (Memref.isWhole_whole _) cc0_scoped0 cc0_scoped1 cc0_scoped2)
          fun _ => iprop(((tLoc d ↦[tSet (jL L)]{half (cL L)} Tb) ∗ (iLoc d ↦[cSet (wid (cL L) (jL L))]{fullShare} Ix)
              ∗ (oLoc d ↦[cSet (wid (cL L) (jL L))]{fullShare} outV Tb Ix))
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') : sProp 𝕄) := by
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%ft, HT⟩, ⟨%fi, HI⟩, ⟨%fo, HO⟩, Hbufs⟩, ⟨Hs0, Hs1, Hs2, Hsems⟩, Hw⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tRowK (F := F) d L _ _).symm) $$ Ht
  ihave Hi' := (Entails.of_eq (pts_iRowK (F := F) d L _).symm) $$ Hi
  ihave Ho' := (Entails.of_eq (pts_oRowK (F := F) d L _).symm) $$ Ho
  ihave HT' := (Entails.of_eq (pts_sT (F := F) d L _).symm) $$ HT
  ihave HI' := (Entails.of_eq (pts_sI (F := F) d L _).symm) $$ HI
  ihave HO' := (Entails.of_eq (pts_sO (F := F) d L _).symm) $$ HO
  rw [cc0__sc_body_eq_skeleton]; unfold cc0__sc_body_skel; rw [k0_part2_eq_skeleton]; unfold k0_part2_skel
  sl_exec (disch := exact View.amount_pos _ _ (show 0 < S50000.numel by decide))
  ihave HT := (Entails.of_eq (show ((sT).view.loc (V d (cV L) (jV L)) ↦{fullShare} View.write (Elt F) (sT).view ft (tile_body.sl.dma0 (F := F) L Tb) Finset.univ : sProp 𝕄)
    = ((sT).view.loc (V d (cV L) (jV L)) ↦{fullShare} rowT (F := F) L Tb) from congrArg _ (View.write_whole_univ ..))) $$ HT'
  ihave HI := (Entails.of_eq (show ((sI).view.loc (V d (cV L) (jV L)) ↦{fullShare} View.write (Elt F) (sI).view fi (tile_body.sl.dma0_1 (F := F) L Ix) Finset.univ : sProp 𝕄)
    = ((sI).view.loc (V d (cV L) (jV L)) ↦{fullShare} rowI (F := F) L Ix) from congrArg _ (View.write_whole_univ ..))) $$ HI'
  rw [bind_assoc]
  sl_for (fun (n : ℕ) (_ : Unit) => Inv (F := F) d L (rowT (F := F) L Tb) (rowI (F := F) L Ix) (rowI_range L Ix hIx) (80 * n)) $$ [HT HI HO']
  case region =>
    intro k _
    exact trip d L _ _ _ k
  · unfold Inv
    isplitl [HT]; · iexact HT
    isplitl [HI]; · iexact HI
    iexists fo; isplitr
    · ipureintro; intro j hj; exact absurd hj (by omega)
    · iexact HO'
  iintro %_ HI
  unfold Inv
  icases HI with ⟨HT, HI, ⟨%f, %hf, HO⟩⟩
  sl_exec (disch := exact View.amount_pos _ _ (show 0 < S50000.numel by decide))
  sl_step
  have hf' : ∀ j, f j = tileV (rowT (F := F) L Tb) (rowI (F := F) L Ix) (rowI_range L Ix hIx) j := fun j =>
    hf j (show (j 0).val < 80 * Scf.trips k0_t1_loop.lb k0_t1_loop.ub k0_t1_loop.st from (show (j 0).val < 50000 from (j 0).isLt))
  isplitl [Ht' Hi' Ho']
  · isplitl [Ht']; · iapply (Entails.of_eq (pts_tRowK (F := F) d L _ _)); iexact Ht'
    isplitl [Hi']; · iapply (Entails.of_eq (pts_iRowK (F := F) d L _)); iexact Hi'
    iapply (Entails.of_eq (pts_oRowK (F := F) d L _))
    ihave Ho2 := (Entails.of_eq (pointsTo_congr (ℓ := (oRowK L).view.loc (V d (cV L) (jV L))) (I := (oRowK L).view.set) (q := fullShare)
      (f := (oRowK L).view.writes (Elt F) Oi [⟨Rect.whole S50000, tile_body.sl.dma0_2 (F := F) f⟩]) (g := outV Tb Ix)
      (out_val (F := F) L Tb Ix Oi hIx f hf'))) $$ Ho'
    iexact Ho2
  isplitl [HT HI HO Hbufs]
  · isplitl [HT]; · iexists _; iexact HT
    isplitl [HI]; · iexists _; iexact HI
    isplitl [HO]; · iexists _; iexact HO
    iexact Hbufs
  isplitl [Hs0 Hs1 Hs2 Hsems]
  · isplitl [Hs0]; · iexact Hs0
    isplitl [Hs1]; · iexact Hs1
    isplitl [Hs2]; · iexact Hs2
    iexact Hsems
  iexists _; isplitr
  swap; · iexact Hw
  ipureintro; intro p _
  rcases p.2 with _ | q
  · exact .inr (.inl rfl)
  · exact .inr (.inr (congrArg some (Subsingleton.elim q 0)))

end Tile

end Cert.Proof.Alone

end
-- ==== Proof.AloneCall.lean ====
/-
  The SparseCore call alone, as a whole: what the handshakes carry out to the cores and the subcores and back, each task's
  obligation, and how the arrays split into the cores' and the subcores' shares and join again.
-/
module

public import proofs.«01_k».proof.Proof.AloneTile

@[expose] public section

noncomputable section

namespace Cert.Proof.Alone

open Cert.ScCall Cert.ScCall.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The positions of core `c`'s chunks. -/
def kSet (c : Fin 2) : Finset S1600000.Idx := Finset.univ.biUnion fun s : Fin 16 => cSet (wid c s)

section Pay

variable (Tb : S16x16640.Idx → BitVec 32) (Ix Oi : S1600000.Idx → BitVec 32)

/-- What core `c` is given: half a share of the whole table, and its chunks of the indices and of the result. -/
abbrev coreP (d : Dev nD) (c : Fin 2) (O : S1600000.Idx → BitVec 32) : sProp (MM F) :=
  iprop((tLoc d ↦{half c} Tb) ∗ (iLoc d ↦[kSet c]{fullShare} Ix) ∗ (oLoc d ↦[kSet c]{fullShare} O))
/-- What subcore `s` of core `c` is given: that share of its table row, and its chunk of the indices and of the result. -/
abbrev tileP (d : Dev nD) (c : Fin 2) (s : Fin 16) (O : S1600000.Idx → BitVec 32) : sProp (MM F) :=
  iprop((tLoc d ↦[tSet s]{half c} Tb) ∗ (iLoc d ↦[cSet (wid c s)]{fullShare} Ix) ∗ (oLoc d ↦[cSet (wid c s)]{fullShare} O))

/-- The handshakes of the call: out with the result at its old contents, back with the selected bits in it. -/
def P : (K (F := F)).Pay (nD := nD) (Val := Elt F) (Name := ℕ) (U := UU) where
  st := fun q d c => match q with | 0 => coreP Tb Ix d (Fin.cast nCore_zero c) Oi
  dn := fun q d c => match q with | 0 => coreP Tb Ix d (Fin.cast nCore_zero c) (outV Tb Ix)
  go := fun q d c i => match q with | 0 => tileP Tb Ix d (Fin.cast nCore_zero c) (Fin.cast nSub_zero i) Oi
  td := fun q d c i => match q with | 0 => tileP Tb Ix d (Fin.cast nCore_zero c) (Fin.cast nSub_zero i) (outV Tb Ix)
  x := fun _ _ => iprop(emp)

instance P_storable : (P (F := F) Tb Ix Oi).IsStorable where
  st q d c := match q with
    | 0 => (inferInstance : BI.Storable (upEmb : UEmb _ 𝕄) (coreP Tb Ix d (Fin.cast nCore_zero c) Oi))
  dn q d c := match q with
    | 0 => (inferInstance : BI.Storable (upEmb : UEmb _ 𝕄) (coreP Tb Ix d (Fin.cast nCore_zero c) (outV Tb Ix)))
  go q d c i := match q with
    | 0 => (inferInstance : BI.Storable (upEmb : UEmb _ 𝕄) (tileP Tb Ix d (Fin.cast nCore_zero c) (Fin.cast nSub_zero i) Oi))
  td q d c i := match q with
    | 0 => (inferInstance : BI.Storable (upEmb : UEmb _ 𝕄) (tileP Tb Ix d (Fin.cast nCore_zero c) (Fin.cast nSub_zero i) (outV Tb Ix)))

end Pay

/-! ## The obligation of a task -/

/-- The coordinates (core, subcore). -/
def coordsV (c : Fin (grid0.bound 0)) (s : Fin (grid0.bound 1)) : grid0.Coords :=
  fun | 0 => c | 1 => s | ⟨_ + 2, h⟩ => absurd h (Nat.not_lt.2 (Nat.le_add_left _ _))

section Obl

variable [FloatOps F]

local notation "tV" => (Memref.whole Cert.ScCall.main_arg0_scv : Memref Cert.ScCall.sig Kind.scVector Space.hbm Cert.ScCall.S16x16640 EltTy.i32)
local notation "iV" => (Memref.whole Cert.ScCall.main_arg1_scv : Memref Cert.ScCall.sig Kind.scVector Space.hbm Cert.ScCall.S1600000 EltTy.i32)
local notation "oV" => (Memref.whole Cert.ScCall.main_v0_scv : Memref Cert.ScCall.sig Kind.scVector Space.hbm Cert.ScCall.S1600000 EltTy.i32)
local notation "sT" => (Memref.whole Cert.ScCall.cc0_scratch0 : Memref Cert.ScCall.sig Kind.scVector Space.vmem Cert.ScCall.S16640 EltTy.i32)
local notation "sI" => (Memref.whole Cert.ScCall.cc0_scratch1 : Memref Cert.ScCall.sig Kind.scVector Space.vmem Cert.ScCall.S50000 EltTy.i32)
local notation "sO" => (Memref.whole Cert.ScCall.cc0_scratch2 : Memref Cert.ScCall.sig Kind.scVector Space.vmem Cert.ScCall.S50000 EltTy.i32)

/-- A vector subcore's program at the call's label is the kernel's body at its coordinates. -/
theorem defs₀_vector (c : Fin τ.nSC) (s : Fin τ.nSub) :
    defs₀ (F := F) (.scVector c s) 0 ()
      = SparseCore.onTile hcore0 hsub0 (fun c s => cc0__sc_body (coordsV c s)
          tV (Memref.isWhole_whole _) iV (Memref.isWhole_whole _) oV (Memref.isWhole_whole _)
          sT (Memref.isWhole_whole _) sI (Memref.isWhole_whole _) sO (Memref.isWhole_whole _) cc0_scoped0 cc0_scoped1 cc0_scoped2) ⟨⟩ c s := rfl

/-- Each task, from what the handshake hands its subcore, leaves what the handshake hands back. -/
theorem tileObl (Tb : S16x16640.Idx → BitVec 32) (Ix Oi : S1600000.Idx → BitVec 32) (hIx : ∀ j, (Ix j >>> 4).toNat < 16640)
    (hF : (K (F := F)).Facts) : (K (F := F)).TileObl (D (F := F)) 𝒱 (P Tb Ix Oi) v₀ 0 := by
  intro d c i O W hO _ _
  simp only [show (P (F := F) Tb Ix Oi).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF O W hO Tb Ix Oi hIx

end Obl

/-! ## The arrays split and join -/

theorem wid_inj {c c' : Fin 2} {s s' : Fin 16} (h : wid c s = wid c' s') : c = c' ∧ s = s' := by
  have h' : 2 * s.val + c.val = 2 * s'.val + c'.val := congrArg Fin.val h
  constructor <;> apply Fin.ext <;> omega

theorem chunk_disjoint {n n' : Fin 32} (h : n ≠ n') : Disjoint (cSet n) (cSet n') := Rect.part_disjoint hdivI h

theorem chunks_disjoint (c : Fin 2) : ∀ s ∈ (Finset.univ : Finset (Fin 16)), ∀ s' ∈ (Finset.univ : Finset (Fin 16)), s ≠ s' →
    Disjoint (cSet (wid c s)) (cSet (wid c s')) := fun _ _ _ _ h => chunk_disjoint fun e => h (wid_inj e).2

theorem rows_disjoint : ∀ s ∈ (Finset.univ : Finset (Fin 16)), ∀ s' ∈ (Finset.univ : Finset (Fin 16)), s ≠ s' → Disjoint (tSet s) (tSet s') :=
  fun _ _ _ _ h => Rect.part_disjoint hdivT h

theorem rows_cover : (Finset.univ : Finset (Fin 16)).biUnion tSet = Finset.univ := Rect.biUnion_part hdivT

theorem cores_disjoint : ∀ c ∈ (Finset.univ : Finset (Fin 2)), ∀ c' ∈ (Finset.univ : Finset (Fin 2)), c ≠ c' → Disjoint (kSet c) (kSet c') := by
  intro c _ c' _ h
  unfold kSet
  rw [Finset.disjoint_biUnion_left]; intro s _
  rw [Finset.disjoint_biUnion_right]; intro s' _
  exact chunk_disjoint fun e => h (wid_inj e).1

theorem cores_cover : (Finset.univ : Finset (Fin 2)).biUnion kSet = Finset.univ := by
  rw [← Rect.biUnion_part hdivI]
  ext x
  simp only [Finset.mem_biUnion, Finset.mem_univ, true_and, kSet]
  constructor
  · rintro ⟨c, s, h⟩; exact ⟨wid c s, h⟩
  · rintro ⟨n, h⟩
    have hn : n = wid ⟨n.val % 2, by omega⟩ ⟨n.val / 2, by omega⟩ := by
      apply Fin.ext; show n.val = 2 * (n.val / 2) + n.val % 2; omega
    exact ⟨_, _, hn ▸ h⟩

theorem tPts_rows (d : Dev nD) (q : PosShare TreeShare) (f : Buf (Elt F) (tLoc d)) :
    (tLoc d ↦{q} f : sProp 𝕄) = bigSep Finset.univ fun s : Fin 16 => tLoc d ↦[tSet s]{q} f := by
  rw [← pointsTo_biUnion Finset.univ (ℓ := tLoc d) tSet rows_disjoint, rows_cover]; try rfl
theorem iPts_chunks (d : Dev nD) (c : Fin 2) (f : Buf (Elt F) (iLoc d)) :
    (iLoc d ↦[kSet c]{fullShare} f : sProp 𝕄) = bigSep Finset.univ fun s : Fin 16 => iLoc d ↦[cSet (wid c s)]{fullShare} f :=
  pointsTo_biUnion Finset.univ (ℓ := iLoc d) (fun s => cSet (wid c s)) (chunks_disjoint c)
theorem oPts_chunks (d : Dev nD) (c : Fin 2) (f : Buf (Elt F) (oLoc d)) :
    (oLoc d ↦[kSet c]{fullShare} f : sProp 𝕄) = bigSep Finset.univ fun s : Fin 16 => oLoc d ↦[cSet (wid c s)]{fullShare} f :=
  pointsTo_biUnion Finset.univ (ℓ := oLoc d) (fun s => cSet (wid c s)) (chunks_disjoint c)
theorem iPts_cores (d : Dev nD) (f : Buf (Elt F) (iLoc d)) :
    (iLoc d ↦{fullShare} f : sProp 𝕄) = bigSep Finset.univ fun c : Fin 2 => iLoc d ↦[kSet c]{fullShare} f := by
  rw [← pointsTo_biUnion Finset.univ (ℓ := iLoc d) kSet cores_disjoint, cores_cover]; try rfl
theorem oPts_cores (d : Dev nD) (f : Buf (Elt F) (oLoc d)) :
    (oLoc d ↦{fullShare} f : sProp 𝕄) = bigSep Finset.univ fun c : Fin 2 => oLoc d ↦[kSet c]{fullShare} f := by
  rw [← pointsTo_biUnion Finset.univ (ℓ := oLoc d) kSet cores_disjoint, cores_cover]; try rfl
theorem tPts_cores (d : Dev nD) (f : Buf (Elt F) (tLoc d)) :
    (tLoc d ↦{fullShare} f : sProp 𝕄) = bigSep Finset.univ fun c : Fin 2 => tLoc d ↦{half c} f := by
  rw [show (Finset.univ : Finset (Fin 2)) = {0, 1} by decide, SparseCore.bigSep_insert' (by decide), bigSep_singleton]
  exact Entails.antisymm (pointsTo_share (PosShare.mem_left_op_right fullShare)).1 (pointsTo_share (PosShare.mem_left_op_right fullShare)).2

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What a core is given is what its subcores are given together. -/
theorem coreP_tiles (Tb : S16x16640.Idx → BitVec 32) (Ix O : S1600000.Idx → BitVec 32) (d : Dev nD) (c : Fin 2) :
    (coreP (F := F) Tb Ix d c O) = bigSep Finset.univ fun s : Fin 16 => tileP Tb Ix d c s O := by
  unfold coreP tileP
  rw [tPts_rows, iPts_chunks, oPts_chunks, bigSep_sep', bigSep_sep']

/-- The three arrays whole are what the two cores are given together. -/
theorem arrays_cores (Tb : S16x16640.Idx → BitVec 32) (Ix O : S1600000.Idx → BitVec 32) (d : Dev nD) :
    (iprop((tLoc d ↦{fullShare} Tb) ∗ (iLoc d ↦{fullShare} Ix) ∗ (oLoc d ↦{fullShare} O)) : sProp 𝕄)
      = bigSep Finset.univ fun c : Fin 2 => coreP (F := F) Tb Ix d c O := by
  unfold coreP
  rw [tPts_cores, iPts_cores, oPts_cores, bigSep_sep', bigSep_sep']

theorem vecSplit (Tb : S16x16640.Idx → BitVec 32) (Ix Oi : S1600000.Idx → BitVec 32) : (K (F := F)).VecSplit' (P Tb Ix Oi) 0 := by
  intro d c
  show coreP Tb Ix d (Fin.cast nCore_zero c) Oi ⊢ |={Set.univ}=> iprop(
      (bigSep Finset.univ fun i : Fin ((K (F := F)).nSub 0) => tileP Tb Ix d (Fin.cast nCore_zero c) (Fin.cast nSub_zero i) Oi)
      ∗ ((bigSep Finset.univ fun i : Fin ((K (F := F)).nSub 0) => tileP Tb Ix d (Fin.cast nCore_zero c) (Fin.cast nSub_zero i) (outV Tb Ix))
          -∗ coreP Tb Ix d (Fin.cast nCore_zero c) (outV Tb Ix)))
  rw [bigSep_tasks (F := F) (fun i => tileP Tb Ix d (Fin.cast nCore_zero c) i Oi),
    bigSep_tasks (F := F) (fun i => tileP Tb Ix d (Fin.cast nCore_zero c) i (outV Tb Ix)), ← coreP_tiles, ← coreP_tiles]
  iintro H; imodintro
  isplitl [H]; · iexact H
  iintro H; iexact H

theorem st0_eq (Tb : S16x16640.Idx → BitVec 32) (Ix Oi : S1600000.Idx → BitVec 32) (d : Dev nD) :
    (bigSep Finset.univ fun c : Fin ((K (F := F)).nCore 0) => (P Tb Ix Oi).st 0 d c)
      = (iprop((tLoc d ↦{fullShare} Tb) ∗ (iLoc d ↦{fullShare} Ix) ∗ (oLoc d ↦{fullShare} Oi)) : sProp 𝕄) :=
  (bigSep_cores (F := F) fun c => coreP Tb Ix d c Oi).trans (arrays_cores Tb Ix Oi d).symm
theorem dn0_eq (Tb : S16x16640.Idx → BitVec 32) (Ix Oi : S1600000.Idx → BitVec 32) (d : Dev nD) :
    (bigSep Finset.univ fun c : Fin ((K (F := F)).nCore 0) => (P Tb Ix Oi).dn 0 d c)
      = (iprop((tLoc d ↦{fullShare} Tb) ∗ (iLoc d ↦{fullShare} Ix) ∗ (oLoc d ↦{fullShare} outV Tb Ix)) : sProp 𝕄) :=
  (bigSep_cores (F := F) fun c => coreP Tb Ix d c (outV Tb Ix)).trans (arrays_cores Tb Ix (outV Tb Ix) d).symm

end Cert.Proof.Alone

end
-- ==== Proof.AloneRun.lean ====
/-
  The run of the SparseCore call alone: @main starts it on its two arguments and waits for it. Its one condition, that every
  index names a word of a table row, is what the claims' precondition says of the indices.
-/
module

public import proofs.«01_k».proof.Proof.AloneCall
public import proofs.«01_k».proof.Proof.Gen.Pre_names_a_bit

@[expose] public section

noncomputable section

namespace Cert.Proof.Alone

open Cert.ScCall Cert.ScCall.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

section Run

variable {F : FTy → Type} [FloatOps F]

local notation "𝕄" => MM F

variable (m : (ℓ : Loc nD τ sig) → Buf (Elt F) ℓ) (ρ : Dev nD → PrngReg)

/-- The table and the indices that the program is given, and what its result's array holds at first. -/
abbrev tbl : S16x16640.Idx → BitVec 32 := m (tLoc 0)
abbrev idx : S1600000.Idx → BitVec 32 := m (iLoc 0)
abbrev old : S1600000.Idx → BitVec 32 := m (oLoc 0)

/-- The call's handshakes, at the program's own arguments. -/
abbrev PM : (K (F := F)).Pay (nD := nD) (Val := Elt F) (Name := ℕ) (U := UU) := P (tbl m) (idx m) (old m)

/-- The three arrays as the program ends with them. -/
abbrev FIN (_ : Dev nD) : sProp 𝕄 :=
  iprop((tLoc 0 ↦{fullShare} tbl m) ∗ (iLoc 0 ↦{fullShare} idx m) ∗ (oLoc 0 ↦{fullShare} outV (tbl m) (idx m)))

/-! ## The resources at the launch -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PM m).x q thr) := by
  have noPart : ∀ thr : Thread nD τ, (bigSep Finset.univ fun q : Fin 1 => (PM m).x q thr) = (iprop(emp) : sProp 𝕄) :=
    fun _ => bigSep_univ_of_subsingleton (0 : Fin 1)
  have none' : ∀ {I : Type} (s : Finset I), (bigSep s fun _ => iprop(emp)) = (iprop(emp) : sProp 𝕄) := fun s => bigSep_emp_const s
  unfold u₀
  rw [bigSep_congr fun thr _ => noPart thr, none', none']
  iintro Hu
  ihave H := (ownU_pair (initOf (K (F := F)).hsCells (K (F := F)).hsToks) (1 : Counters)) $$ Hu
  icases H with ⟨HH, -⟩
  imodintro
  isplitl [HH]; · iexact HH
  isplitl [] <;> iempintro

/-- The TensorCore's arrays at the launch are the call's three. -/
theorem arrays_at (W : (b : Ref sig .tc) → Buf (Elt F) (((0 : Dev nD).tc : Thread nD τ).loc b)) :
    (unscopedBufs (0 : Dev nD) W : sProp 𝕄) = iprop((tLoc 0 ↦{fullShare} W main_arg0) ∗ (iLoc 0 ↦{fullShare} W main_arg1) ∗ (oLoc 0 ↦{fullShare} W main_v0)) := by
  have hall : (Finset.univ.filter fun b : Ref sig .tc => ¬ b.isScoped) = {main_arg0, main_arg1, main_v0} := by decide
  unfold unscopedBufs
  rw [hall, SparseCore.bigSep_insert' (by decide), SparseCore.bigSep_insert' (by decide), bigSep_singleton]

/-! ## @main, and the whole run -/

/-- @main hands the call its three arrays and takes them back with the selected bits in the result's. -/
theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain rfl : d = 0 := Subsingleton.elim _ _
  unfold SparseCore.Cfg.tcRes SparseCore.Cfg.tcEnd
  rw [arrays_at]
  simp only [main, wp_bind, wp_pure]
  iintro ⟨#Hctx, Hst, ⟨Hb, H3, Hts, -⟩, -⟩
  iapply ((K (F := F)).wp_run (D (F := F)) 𝒱 (EH := EH) (P := PM m) κ 0 0) $$ [-]
  isplitr; · iexact Hctx
  isplitl [Hst]; · iexact Hst
  isplitl [H3]; · rw [st0_eq]; iexact H3
  iintro ⟨Hst, Hdn⟩
  ihave H3 := (Entails.of_eq (dn0_eq (tbl m) (idx m) (old m) 0)) $$ Hdn
  imodintro
  isplitl [Hst]; · iexact Hst
  isplitl [H3]; · iexact H3
  isplitl [Hb] <;> iassumption

/-- What the claims read of the final memory. -/
def fq (_ : Dev nD) (s' : Phys nD τ sig (Elt F)) : Prop :=
  s'.mem.mem (oLoc 0) = outV (tbl m) (idx m) ∧ s'.mem.mem (tLoc 0) = tbl m ∧ s'.mem.mem (iLoc 0) = idx m

/-- An array held whole is what the memory holds there. -/
theorem read_whole (s' : Phys nD τ sig (Elt F)) (ℓ : Loc nD τ sig) (f : Buf (Elt F) ℓ) :
    iprop(SI s' ∗ (ℓ ↦{fullShare} f)) ⊢ (iprop(⌜s'.mem.mem ℓ = f⌝ ∗ SI s' ∗ (ℓ ↦{fullShare} f)) : sProp 𝕄) := by
  iintro H
  ihave H := (persistent_entails_right (SI_pointsTo_agree (st := s') (ℓ := ℓ) (I := Finset.univ) (q := fullShare) (f := f))) $$ H
  icases H with ⟨%h, HSI, Hp⟩
  isplitr
  · ipureintro; exact funext fun i => h i (Finset.mem_univ i)
  isplitl [HSI] <;> iassumption

theorem hfin (d : Dev nD) (s' : Phys nD τ sig (Elt F)) : iprop(FIN m d ∗ SI s') ⊢ (⌜fq m d s'⌝ : sProp 𝕄) := by
  iintro ⟨⟨Ht, Hi, Ho⟩, HSI⟩
  ihave H := (read_whole s' (tLoc 0) (tbl m)) $$ [HSI Ht]
  · isplitl [HSI] <;> iassumption
  icases H with ⟨%ht, HSI, -⟩
  ihave H := (read_whole s' (iLoc 0) (idx m)) $$ [HSI Hi]
  · isplitl [HSI] <;> iassumption
  icases H with ⟨%hi, HSI, -⟩
  ihave H := (read_whole s' (oLoc 0) (outV (tbl m) (idx m))) $$ [HSI Ho]
  · isplitl [HSI] <;> iassumption
  icases H with ⟨%ho, -, -⟩
  ipureintro
  exact ⟨ho, ht, hi⟩

/-- How the program ends: the selected bits in the result, the arguments as given, every semaphore at zero. -/
def QC : PUnit × MemSt nD τ sig (Elt F) → Prop := fun r =>
  (∀ c : Dev nD, r.2.mem ((c.tc : Thread nD τ).loc main_v0) = outV (tbl m) (idx m)
    ∧ r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0

/-- Where every index names a word of a table row, the program runs and ends so. -/
theorem run_main [∀ e, Nonempty (Elt F e)] (hIx : ∀ j, (idx m j >>> 4).toNat < 16640) :
    θ_run (defs (F := F)) (threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (tbl m) (idx m) (old m) hIx facts)
    (fun q _ => match q with | 0 => SparseCore.Cfg.VecSplit.of_plain (vecSplit (tbl m) (idx m) (old m)))
    m ρ main (fun _ => iprop(emp)) (FIN m) (u₀ (F := F)) (sep_elim_left.trans (hu₀ m)) (hmain m ρ) (fq m) (hfin m) (QC m)
    (fun _ h hz => ⟨fun c => by
      obtain rfl : c = 0 := Subsingleton.elim _ _
      exact h 0, hz⟩)

end Run

/-! ## The precondition -/

/-- A word that passes both signed comparisons is, unsigned, below the upper bound. -/
theorem word_lt (v : BitVec 32) (h : IntOp.andi (IntOp.cmpi .sge v 0#32) (IntOp.cmpi .slt v 266240#32) = 1#1) : v.toNat < 266240 := by
  have one : ∀ p q : Bool, IntOp.andi (BitVec.ofBool p) (BitVec.ofBool q) = 1#1 → p = true ∧ q = true := by decide
  obtain ⟨hge, hlt⟩ := one _ _ h
  have h0 : (0#32).sle v = true := hge
  have h1 : v.slt 266240#32 = true := hlt
  rw [BitVec.sle_eq_decide, decide_eq_true_eq] at h0
  rw [BitVec.slt_eq_decide, decide_eq_true_eq] at h1
  simp only [BitVec.toInt_eq_toNat_cond, BitVec.toNat_ofNat, Nat.reducePow, Nat.reduceMod] at h0 h1
  omega

/-- The precondition, of indices given as an array: each is below the number of a row's bits. -/
theorem below (T : IVec S16x16640 32) (I : IVec S1600000 32) (h : Cert.Pre_names_a_bit.fn (F := Bits) T I = fun _ => 1#1)
    (j : S1600000.Idx) : (I j).toNat < 266240 := by
  have e := congrFun h j
  simp only [Cert.Pre_names_a_bit.fn, andi, cmpi, broadcastInDim, constantI] at e
  exact word_lt _ e

/-- Sixteen bits to a word: an index below 266240 names a word of the row. -/
theorem word_of_below (v : BitVec 32) (h : v.toNat < 266240) : (v >>> 4).toNat < 16640 := by
  rw [BitVec.toNat_ushiftRight, Nat.shiftRight_eq_div_pow]
  omega

theorem index_lt (m : (ℓ : Loc nD τ sig) → Buf (Elt Bits) ℓ) (h : Cert.Pre_ScCall m) (j : S1600000.Idx) :
    (idx m j >>> 4).toNat < 16640 := word_of_below _ (below _ _ (h 0) j)

end Cert.Proof.Alone

end
-- ==== Proof.AloneRef.lean ====
/-
  The plain statement of the SparseCore call, position by position (`res_at`): of the position's own image's row, the word that
  the index names by its quotient by sixteen, and of that word the bit that the remainder names. Where the indices name bits of
  the row this is what the call computes.
-/
module

public import proofs.«01_k».proof.Proof.AloneBase
public import proofs.«01_k».proof.Proof.Gen.ScReference
public import proofs.«01_k».proof.Proof.Gen.ScReference.Run
public import Idealize.ShloMosaic.Lib.ValueIdx
public import Idealize.ShloMosaic.Lib.Pipeline.Value
public import Idealize.ShloMosaic.Lib.Pointwise.Reshape

@[expose] public section

noncomputable section

namespace Cert.Proof.AloneRef

open Idealize.ShloMosaic Cert.ScReference Cert.ScReference.Gen

/-! ## Words that are not negative -/

theorem msb_false (v : BitVec 32) (h : v.toNat < 2147483648) : v.msb = false := by
  rw [BitVec.msb_eq_false_iff_two_mul_lt]; omega

/-- Such a word passes for itself as an index. -/
theorem not_neg (v : BitVec 32) (h : v.toNat < 2147483648) : v.slt 0#32 = false := by
  rw [BitVec.slt_eq_decide, decide_eq_false_iff_not]
  simp only [BitVec.toInt_eq_toNat_cond, BitVec.toNat_ofNat, Nat.reducePow, Nat.reduceMod]
  omega

theorem toInt_small (v : BitVec 32) (h : v.toNat < 2147483648) : v.toInt.toNat = v.toNat := by
  rw [BitVec.toInt_eq_toNat_of_msb (msb_false v h), Int.toNat_natCast]

/-- Division of a word that is not negative by a positive one is division of numbers, -/
theorem quotient (v k : BitVec 32) (hv : v.toNat < 2147483648) (hk : k.toNat < 2147483648) (h0 : 0 < k.toNat) :
    (IntOp.divsi .host v k).toNat = v.toNat / k.toNat := by
  have hc : ¬ IntOp.SDivCorner v k := by
    rintro (h | ⟨-, h⟩)
    · rw [h] at h0; exact absurd h0 (by decide)
    · rw [h] at hk; exact absurd hk (by decide)
  unfold IntOp.divsi
  rw [if_neg hc, BitVec.sdiv_eq, msb_false v hv, msb_false k hk]
  exact BitVec.toNat_udiv
/-- and so is its remainder. -/
theorem remainder (v k : BitVec 32) (hv : v.toNat < 2147483648) (hk : k.toNat < 2147483648) (h0 : 0 < k.toNat) :
    (IntOp.remsi .host v k).toNat = v.toNat % k.toNat := by
  have hc : ¬ IntOp.SDivCorner v k := by
    rintro (h | ⟨-, h⟩)
    · rw [h] at h0; exact absurd h0 (by decide)
    · rw [h] at hk; exact absurd hk (by decide)
  unfold IntOp.remsi
  rw [if_neg hc, BitVec.srem_eq, msb_false v hv, msb_false k hk]
  exact BitVec.toNat_umod

/-- The lowest bit of a word shifted right by less than its width is the same whichever way the shift fills. -/
theorem low_bit (w r : BitVec 32) (h : r.toNat < 32) : IntOp.shrsi .host w r &&& 1#32 = (w >>> r) &&& 1#32 := by
  unfold IntOp.shrsi
  rw [if_pos h]
  apply BitVec.eq_of_getLsbD_eq
  intro i hi
  rw [BitVec.getLsbD_and, BitVec.getLsbD_and]
  by_cases h0 : i = 0
  · subst h0
    have e : (w.sshiftRight' r).getLsbD 0 = (w >>> r).getLsbD 0 := by
      show (w.sshiftRight r.toNat).getLsbD 0 = (w >>> r.toNat).getLsbD 0
      rw [BitVec.getLsbD_sshiftRight, BitVec.getLsbD_ushiftRight, Nat.add_zero, if_pos h]
      rfl
    rw [e]
  · have e : (1#32).getLsbD i = false := by
      rw [BitVec.getLsbD_one]; simp [h0]
    rw [e, Bool.and_false, Bool.and_false]

/-! ## The rows and the words -/

/-- A word at every position. -/
abbrev every (w : BitVec 32) : IVec S1600000 32 := broadcastInDim S1600000 ![] bcast_S_S1600000 (constantI S_ 32 w)

/-- The images of the positions, -/
abbrev imgs : IVec S1600000 32 := Host.divsi (iotaInDim S1600000 32 0) (every 100000#32)
/-- and an index array with `n` added to its negative members. -/
abbrev wrap (x : IVec S1600000 32) (n : BitVec 32) : IVec S1600000 32 :=
  select (cmpi .slt x (every 0#32)) (addi x (every n)) x

theorem wrap_at (x : IVec S1600000 32) (n : BitVec 32) (j : S1600000.Idx) (h : (x j).toNat < 2147483648) : wrap x n j = x j := by
  have e : wrap x n j = Scalar.select (BitVec.ofBool ((x j).slt 0#32)) (x j + n) (x j) := rfl
  rw [e, not_neg _ h]
  rfl

theorem imgs_at (j : S1600000.Idx) : (imgs j).toNat = (Alone.imgOf j).val := by
  have hj : (j 0).val < 1600000 := (j 0).isLt
  have e : (BitVec.ofNat 32 (j 0).val).toNat = (j 0).val := by
    rw [BitVec.toNat_ofNat]; exact Nat.mod_eq_of_lt (by omega)
  have q := quotient (BitVec.ofNat 32 (j 0).val) 100000#32 (by rw [e]; omega) (by decide) (by decide)
  rw [e] at q
  exact q

variable (y x : IVec S1600000 32)

/-- An array of the positions as one component of a start index. -/
abbrev comp (x : IVec S1600000 32) : IVec S1600000x1 32 := broadcastInDim S1600000x1 ![0] bcast_S1600000_S1600000x1_0 x

theorem comp_at (p : Fin 1600000) : comp x (ValueIdx.ix2 p 0) = x (ValueIdx.ix1 p) :=
  broadcastInDim_apply _ _ _ _ (ValueIdx.ix1 p) fun a => by
    match a with
    | ⟨0, _⟩ => rfl

/-- Row and word, -/
abbrev parts : List ((s : Shape) × (s.Idx → BitVec 32)) := [⟨S1600000x1, comp y⟩, ⟨S1600000x1, comp x⟩]
/-- the start index of each position. -/
def starts : IVec S1600000x2 32 := concatenate S1600000x2 1 (parts y x) concatenates_S1600000x1_S1600000x1_S1600000x2_d1

theorem piece (k : ℕ) (c : Fin 2) (hk : k < 2) (hc : c.val = k) (z : IVec S1600000x1 32) (hz : (parts y x)[k] = ⟨S1600000x1, z⟩)
    (hp : ((((parts y x).take k).map (·.1)).map
      fun s => if h : s.rank = S1600000x2.rank then s.size ((1 : Fin 2).cast h.symm) else 0).sum = k)
    (p : Fin 1600000) : starts y x (ValueIdx.ix2 p c) = z (ValueIdx.ix2 p 0) :=
  concatenate_apply_piece (t := S1600000x2) 1 (parts y x) _ (ValueIdx.ix2 p c) k hk S1600000x1 z hz rfl k hp (ValueIdx.ix2 p 0)
    (fun a ha => by
      match a with
      | ⟨0, _⟩ => rfl
      | ⟨1, _⟩ => exact absurd rfl ha)
    hc.symm

theorem starts_at (p : Fin 1600000) :
    starts y x (ValueIdx.ix2 p 0) = y (ValueIdx.ix1 p) ∧ starts y x (ValueIdx.ix2 p 1) = x (ValueIdx.ix1 p) :=
  ⟨(piece y x 0 0 (by decide) rfl _ rfl rfl p).trans (comp_at y p), (piece y x 1 1 (by decide) rfl _ rfl rfl p).trans (comp_at x p)⟩

/-- The gather's dimension numbers. -/
abbrev gd : GatherDims S16x16640 S1600000x2 S1600000 := gather_S16x16640_S1600000x2_S1600000_n_01_n_n_01_1_11

theorem siIdx_eq (p : Fin 1600000) (c : Fin 2) : gd.siIdx (ValueIdx.ix1 p) c = ValueIdx.ix2 p c :=
  funext fun a => by
    match a with
    | ⟨0, _⟩ => rfl
    | ⟨1, _⟩ => rfl

theorem start_0 (I : IVec S1600000x2 32) (p : Fin 1600000) :
    gd.start (ValueIdx.ix1 p) I (0 : Fin 2) = min (I (gd.siIdx (ValueIdx.ix1 p) (0 : Fin 2))).toInt.toNat 15 := rfl
theorem start_1 (I : IVec S1600000x2 32) (p : Fin 1600000) :
    gd.start (ValueIdx.ix1 p) I (1 : Fin 2) = min (I (gd.siIdx (ValueIdx.ix1 p) (1 : Fin 2))).toInt.toNat 16639 := rfl

/-- With the row and the word in range, the gather reads the word they name. -/
theorem gather_at (T : IVec S16x16640 32) (p : Fin 1600000) (s : Fin 16) (n : ℕ) (hn : n < 16640)
    (hy : (y (ValueIdx.ix1 p)).toNat = s.val) (hx : (x (ValueIdx.ix1 p)).toNat = n) :
    Host.gather gd T (starts y x) (ValueIdx.ix1 p) = T (Alone.tIx s n) := by
  obtain ⟨s0, s1⟩ := starts_at y x p
  have hs := s.isLt
  refine congrArg T (funext fun a => Fin.ext ?_)
  match a with
  | ⟨0, _⟩ =>
    refine Eq.trans (show _ = gd.start (ValueIdx.ix1 p) (starts y x) (0 : Fin 2) + 0 + 0 from rfl) ?_
    rw [start_0, siIdx_eq, s0, toInt_small _ (by omega), hy]
    show min s.val 15 + 0 + 0 = s.val
    omega
  | ⟨1, _⟩ =>
    refine Eq.trans (show _ = gd.start (ValueIdx.ix1 p) (starts y x) (1 : Fin 2) + 0 + 0 from rfl) ?_
    rw [start_1, siIdx_eq, s1, toInt_small _ (by omega), hx]
    show min n 16639 + 0 + 0 = n % 16640
    omega

/-! ## The result -/

variable (T : IVec S16x16640 32) (I : IVec S1600000 32)

/-- The result as a function of the two arguments. -/
def res : IVec S1600000 32 :=
  andi (Host.shrsi (Host.gather gd T (starts (wrap imgs 16#32) (wrap (Host.divsi I (every 16#32)) 16640#32)))
    (Host.remsi I (every 16#32))) (every 1#32)

/-- Where every index names a bit of the row, it is what the call computes. -/
theorem res_eq (hI : ∀ j, (I j).toNat < 266240) : res T I = Alone.outV T I := by
  funext j
  obtain ⟨p, rfl⟩ : ∃ p : Fin 1600000, j = ValueIdx.ix1 p := ⟨j 0, ValueIdx.eq_ix1 j⟩
  have hv := hI (ValueIdx.ix1 p)
  have him := imgs_at (ValueIdx.ix1 p)
  have hs := (Alone.imgOf (ValueIdx.ix1 p)).isLt
  have hq : (Host.divsi I (every 16#32) (ValueIdx.ix1 p)).toNat = (I (ValueIdx.ix1 p)).toNat / 16 :=
    quotient (I (ValueIdx.ix1 p)) 16#32 (by omega) (by decide) (by decide)
  have hr : (IntOp.remsi .host (I (ValueIdx.ix1 p)) 16#32).toNat = (I (ValueIdx.ix1 p)).toNat % 16 :=
    remainder (I (ValueIdx.ix1 p)) 16#32 (by omega) (by decide) (by decide)
  have hw : (I (ValueIdx.ix1 p) >>> 4).toNat = (I (ValueIdx.ix1 p)).toNat / 16 := by
    rw [BitVec.toNat_ushiftRight, Nat.shiftRight_eq_div_pow]
  have hlow : IntOp.remsi .host (I (ValueIdx.ix1 p)) 16#32 = I (ValueIdx.ix1 p) &&& 15#32 := by
    apply BitVec.eq_of_toNat_eq
    rw [hr, BitVec.toNat_and]
    exact (Nat.and_two_pow_sub_one_eq_mod _ 4).symm
  have hg := gather_at (wrap imgs 16#32) (wrap (Host.divsi I (every 16#32)) 16640#32) T p (Alone.imgOf (ValueIdx.ix1 p))
    (I (ValueIdx.ix1 p) >>> 4).toNat (by omega)
    (by rw [wrap_at _ _ _ (by omega), him]) (by rw [wrap_at _ _ _ (by omega), hq, hw])
  have e : res T I (ValueIdx.ix1 p)
      = IntOp.shrsi .host (Host.gather gd T (starts (wrap imgs 16#32) (wrap (Host.divsi I (every 16#32)) 16640#32)) (ValueIdx.ix1 p))
          (IntOp.remsi .host (I (ValueIdx.ix1 p)) 16#32) &&& 1#32 := rfl
  rw [e, hg, low_bit _ _ (by omega), hlow]
  rfl

end Cert.Proof.AloneRef

end
-- ==== Proof.lean ====
/-
  The proof of `Cert.Claim` (Defs.lean), assembled: the kernel's run (Proof/Launch.lean `run_main`), its result point by point
  (Proof/Answer.lean `result_at`), the reference's run and its result point by point (Proof/RefValue.lean `res_at`). Both are
  what is asked of the point (Proof/Asked.lean `answer`). And the SparseCore call alone over machine words: its run
  (Proof/AloneRun.lean `run_main`) and its plain statement (Proof/AloneRef.lean `res_eq`).
-/
module

public import proofs.«01_k».proof.Defs
public import proofs.«01_k».proof.Proof.Answer
public import proofs.«01_k».proof.Proof.RefValue
public import proofs.«01_k».proof.Proof.AloneRun
public import proofs.«01_k».proof.Proof.AloneRef
public import Idealize.ShloMosaic.Lib.Quiescent
public import Idealize.ShloMosaic.Adequacy
public import Idealize.ShloMosaic.Init

@[expose] public section

noncomputable section

namespace Cert.Proof

open Idealize.ShloMosaic Idealize.SL.Sem

instance : ∀ e, Nonempty (Elt Ideal e) := fun _ => inferInstance

/-- The kernel's run at the extended reals: every index names a word of the table, so nothing faults. -/
theorem run_kernel (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (Cert.KernelIdeal.threads (F := Ideal)) ⟨m, fun _ => 0, ρ⟩ (Kern.QC m) :=
  Kern.run_main m ρ (Sc.index_lt m)

/-- The kernel's frame: the run, read at the arguments and at the counters. -/
theorem frame_kernel : Cert.quiescent_KernelIdeal := fun m ρ _ =>
  (θ_run Cert.KernelIdeal.defs _ _).mono (fun _ h => ⟨fun c => (h.1 c).2, h.2⟩) (run_kernel m ρ)

/-- The reference's frame: its run, read at the arguments; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal arguments the two results are one array. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h0 : m' (((0 : Dev Cert.ReferenceIdeal.nD).tc : Thread Cert.ReferenceIdeal.nD Cert.ReferenceIdeal.τ).loc Cert.ReferenceIdeal.main_arg0) = Sc.pts m)
    (h1 : m' (((0 : Dev Cert.ReferenceIdeal.nD).tc : Thread Cert.ReferenceIdeal.nD Cert.ReferenceIdeal.τ).loc Cert.ReferenceIdeal.main_arg1) = Sc.imgs m) :
    Cert.ReferenceIdeal.Value.res_main_v65 m' 0 = Kern.result m := by
  rw [Rf.res_eq, h0, h1]
  funext j
  obtain ⟨b, p, rfl⟩ : ∃ (b : Fin 16) (p : Fin 100000), j = ValueIdx.ix2 b p := ⟨j 0, j 1, ValueIdx.eq_ix2 j⟩
  exact (Rf.res_at _ _ b p).trans (Sc.result_at m b p).symm

/-- The kernel and the reference agree: the shared value is the kernel's result. -/
theorem value : Cert.algebraic_KernelIdeal_ReferenceIdeal := by
  intro m ρ m' ρ' _ hagree
  refine ⟨fun _ => Kern.result m, (θ_run Cert.KernelIdeal.defs _ _).mono (fun _ h c => h.1 c) (run_kernel m ρ), ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  exact results_eq m m' (hagree 0).1 (hagree 0).2

/-! ## The SparseCore call alone, over words -/

instance : ∀ e, Nonempty (Elt Bits e) := fun _ => inferInstance

/-- The call's run: the precondition's indices name words of the table, so nothing faults. -/
theorem run_call (m : (ℓ : Loc Cert.ScCall.nD Cert.ScCall.τ Cert.ScCall.sig) → Buf (Elt Bits) ℓ) (ρ : Dev Cert.ScCall.nD → PrngReg)
    (h : Cert.Pre_ScCall m) :
    θ_run (Cert.ScCall.defs (F := Bits)) (Cert.ScCall.threads (F := Bits)) ⟨m, fun _ => 0, ρ⟩ (Alone.QC m) :=
  Alone.run_main m ρ (Alone.index_lt m h)

/-- The call's frame. -/
theorem frame_call : Cert.quiescent_ScCall := fun m ρ h =>
  (θ_run Cert.ScCall.defs _ _).mono (fun _ h => ⟨fun c => (h.1 c).2, h.2⟩) (run_call m ρ h)

/-- The frame of its plain statement. -/
theorem frame_call_reference : Cert.quiescent_ScReference := fun m ρ _ =>
  (θ_run Cert.ScReference.defs _ _).mono (fun r h => ⟨fun c => (h c).2, sem_eq_zero_of_no_sems (by decide) r.2⟩)
    (Cert.ScReference.Value.run (F := Bits) m ρ)

/-- The call and its plain statement end with the same words. -/
theorem value_call : Cert.bitexact_ScCall_ScReference := by
  intro m ρ m' ρ' hpre hagree
  refine ⟨fun _ => Alone.outV (Alone.tbl m) (Alone.idx m),
    (θ_run Cert.ScCall.defs _ _).mono (fun _ h c => h.1 c) (run_call m ρ hpre), ?_⟩
  refine (θ_run Cert.ScReference.defs _ _).mono (fun _ h c => ⟨(h c).1.trans ?_, (h c).2⟩)
    (Cert.ScReference.Value.run (F := Bits) m' ρ')
  obtain rfl : c = 0 := Subsingleton.elim _ _
  have e := AloneRef.res_eq (Alone.tbl m) (Alone.idx m) (Alone.below _ _ (hpre 0))
  rw [← e, (hagree 0).1, (hagree 0).2]
  rfl

/-- `Cert.Claim` (Defs.lean). -/
theorem claim : Cert.Claim :=
  ⟨Cert.KernelIdeal.Gen.facts, Cert.ReferenceIdeal.Gen.facts, Cert.ScCall.Gen.facts, Cert.ScReference.Gen.facts,
    Cert.Pre_names_a_bit.Gen.facts, frame_kernel, frame_reference, frame_call, frame_call_reference, value, value_call⟩

end Cert.Proof

end
